-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_nonneg [hPre_gates_nonneg : Cert.Pre_gates_nonneg.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_nonneg.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_nonneg [hPre_gates_nonneg : Cert.Pre_gates_nonneg.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_nonneg.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_gates_nonneg [hKernel2Ideal : Cert.Kernel2Ideal.Facts] [hPre_gates_nonneg : Cert.Pre_gates_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_nonneg m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_gates_nonneg [hReference2Ideal : Cert.Reference2Ideal.Facts] [hPre_gates_nonneg : Cert.Pre_gates_nonneg.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_nonneg m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_gates_nonneg [hKernel2Ideal : Cert.Kernel2Ideal.Facts] [hReference2Ideal : Cert.Reference2Ideal.Facts] [hPre_gates_nonneg : Cert.Pre_gates_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_nonneg m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)) (v3 : (c : Dev Cert.Kernel3Ideal.nD) → Buf (Elt Ideal) ((c.tc : Thread Cert.Kernel3Ideal.nD Cert.Kernel3Ideal.τ).loc Cert.Kernel3Ideal.main_v49_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_v49_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v134) = v0 c
          ∧ r.2.mem ((c.tc : Thread Cert.Reference3Ideal.nD Cert.Reference3Ideal.τ).loc Cert.Reference3Ideal.main_v141) = v1 c
          ∧ r.2.mem ((c.tc : Thread Cert.Reference3Ideal.nD Cert.Reference3Ideal.τ).loc Cert.Reference3Ideal.main_v144) = v2 c
          ∧ r.2.mem ((c.tc : Thread Cert.Reference3Ideal.nD Cert.Reference3Ideal.τ).loc Cert.Reference3Ideal.main_v147) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v190) = v0 c
          ∧ r.2.mem ((c.tc : Thread Cert.Reference4Ideal.nD Cert.Reference4Ideal.τ).loc Cert.Reference4Ideal.main_v203) = v1 c
          ∧ r.2.mem ((c.tc : Thread Cert.Reference4Ideal.nD Cert.Reference4Ideal.τ).loc Cert.Reference4Ideal.main_v202) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_gates_nonneg : Cert.Pre_gates_nonneg.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_gates_nonneg (hKernel2Ideal := hKernel2Ideal) (hPre_gates_nonneg := hPre_gates_nonneg)
    ∧ quiescent_Reference2Ideal (hReference2Ideal := hReference2Ideal)
    ∧ quiescent_Reference2Ideal_pre_gates_nonneg (hReference2Ideal := hReference2Ideal) (hPre_gates_nonneg := hPre_gates_nonneg)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_gates_nonneg (hKernel2Ideal := hKernel2Ideal) (hReference2Ideal := hReference2Ideal) (hPre_gates_nonneg := hPre_gates_nonneg)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩

class Facts : Prop where
  bcast_S_S16x4096x8x64 : S_.BroadcastsInDim S16x4096x8x64 (![] : Fin 0 → Fin S16x4096x8x64.rank)
  bcast_S_S16x4096x8x32 : S_.BroadcastsInDim S16x4096x8x32 (![] : Fin 0 → Fin S16x4096x8x32.rank)
  bcast_S_S16x4096x32 : S_.BroadcastsInDim S16x4096x32 (![] : Fin 0 → Fin S16x4096x32.rank)

variable [Facts]

def fn {F : FTy → Type} [FloatOps F] (main_arg0 : FVec F S16x4096x8x64 .f32) (main_arg1 : FVec F S16x4096x8x32 .f32) (main_arg2 : FVec F S16x4096x8x64 .f32) (main_arg3 : FVec F S16x4096x32 .f32) (main_arg4 : FVec F S16x4096x8x64 .f32) : IVec S16x4096x8x64 1 × IVec S16x4096x8x32 1 × IVec S16x4096x8x64 1 × IVec S16x4096x32 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x4096x8x32 .f32 := Host.absf main_arg1
  let main_cst_0 : FVec F S_ .f32 := constant S_ .f32 0x7F800000#32
  let main_v4 : FVec F S16x4096x8x32 .f32 := broadcastInDim S16x4096x8x32 ![] bcast_S_S16x4096x8x32 main_cst_0
  let main_v5 : IVec S16x4096x8x32 1 := cmpf .olt main_v3 main_v4
  let main_v6 : FVec F S16x4096x8x64 .f32 := Host.absf main_arg2
  let main_cst_1 : FVec F S_ .f32 := constant S_ .f32 0x7F800000#32
  let main_v7 : FVec F S16x4096x8x64 .f32 := broadcastInDim S16x4096x8x64 ![] bcast_S_S16x4096x8x64 main_cst_1
  let main_v8 : IVec S16x4096x8x64 1 := cmpf .olt main_v6 main_v7
  let main_v9 : FVec F S16x4096x32 .f32 := Host.absf main_arg3
  let main_cst_2 : FVec F S_ .f32 := constant S_ .f32 0x7F800000#32
  let main_v10 : FVec F S16x4096x32 .f32 := broadcastInDim S16x4096x32 ![] bcast_S_S16x4096x32 main_cst_2
  let main_v11 : IVec S16x4096x32 1 := cmpf .olt main_v9 main_v10
  (main_v2, main_v5, main_v8, main_v11)
-- ==== Pre_gates_nonneg.lean ====
abbrev S65536x1024 : Shape := ⟨2, ![65536, 1024]⟩
abbrev S65536x16 : Shape := ⟨2, ![65536, 16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S65536x16 : S_.BroadcastsInDim S65536x16 (![] : Fin 0 → Fin S65536x16.rank)

variable [Facts]

def fn {F : FTy → Type} [FloatOps F] (main_arg0 : FVec F S65536x1024 .f32) (main_arg1 : FVec F S65536x16 .f32) (main_arg2 : FVec F S16x1024x512 .f32) (main_arg3 : FVec F S16x1024x512 .f32) (main_arg4 : FVec F S16x512x1024 .f32) (main_arg5 : FVec F S1024 .f32) (main_arg6 : FVec F S1024 .f32) : IVec S65536x16 1 :=
  let main_cst : FVec F S_ .f32 := constant S_ .f32 0x00000000#32
  let main_v0 : FVec F S65536x16 .f32 := broadcastInDim S65536x16 ![] bcast_S_S65536x16 main_cst
  let main_v1 : IVec S65536x16 1 := cmpf .oge main_arg1 main_v0
  main_v1
-- ==== Kernel.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩
abbrev S16x4096x1x32 : Shape := ⟨4, ![16, 4096, 1, 32]⟩
abbrev S16x4096x8x128 : Shape := ⟨4, ![16, 4096, 8, 128]⟩
abbrev S16x8x4096x128 : Shape := ⟨4, ![16, 8, 4096, 128]⟩
abbrev S16x4096x512 : Shape := ⟨3, ![16, 4096, 512]⟩
abbrev S1x2x512x128 : Shape := ⟨4, ![1, 2, 512, 128]⟩
abbrev S1x2x4096x128 : Shape := ⟨4, ![1, 2, 4096, 128]⟩
abbrev S1x512x128 : Shape := ⟨3, ![1, 512, 128]⟩
abbrev S1x1x512x128 : Shape := ⟨4, ![1, 1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 24
  | .vmem => 8
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S_, .f32⟩
  | .hbm, ⟨6, _⟩ => ⟨S16x4096x8x32, .f32⟩
  | .hbm, ⟨7, _⟩ => ⟨S16x4096x1x32, .f32⟩
  | .hbm, ⟨8, _⟩ => ⟨S16x4096x8x32, .f32⟩
  | .hbm, ⟨9, _⟩ => ⟨S16x4096x8x128, .f32⟩
  | .hbm, ⟨10, _⟩ => ⟨S_, .f32⟩
  | .hbm, ⟨11, _⟩ => ⟨S16x4096x8x128, .f32⟩
  | .hbm, ⟨12, _⟩ => ⟨S16x4096x8x128, .f32⟩
  | .hbm, ⟨13, _⟩ => ⟨S16x4096x8x128, .bf16⟩
  | .hbm, ⟨14, _⟩ => ⟨S16x4096x8x128, .f32⟩
  | .hbm, ⟨15, _⟩ => ⟨S16x4096x8x128, .bf16⟩
  | .hbm, ⟨16, _⟩ => ⟨S_, .f32⟩
  | .hbm, ⟨17, _⟩ => ⟨S16x4096x8x64, .f32⟩
  | .hbm, ⟨18, _⟩ => ⟨S16x4096x8x128, .f32⟩
  | .hbm, ⟨19, _⟩ => ⟨S16x4096x8x128, .bf16⟩
  | .hbm, ⟨20, _⟩ => ⟨S16x8x4096x128, .bf16⟩
  | .hbm, ⟨21, _⟩ => ⟨S16x8x4096x128, .bf16⟩
  | .hbm, ⟨22, _⟩ => ⟨S16x8x4096x128, .bf16⟩
  | .hbm, ⟨23, _⟩ => ⟨S16x4096x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x512x128, .bf16⟩
  | .local _ .vmem, ⟨7, _⟩ => ⟨S1x512x128, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v27 : BitVec 32 := Scalar.muli arg7 c512_i32
  v27
def k0_off1 (k0_t1 : Fin k0_t1_loop.trips) : Fin 4 → Nat :=
  let c0_18 : Index := 0#32
  let c0_19 : Index := 0#32
  let c0_i32 : BitVec 32 := 0#32
  let c1_i32 : BitVec 32 := 1#32
  let arg7 : BitVec 32 := Scf.iv c0_i32 c1_i32 k0_t1
  let c512_i32 : BitVec 32 := 512#32
  let v27 : BitVec 32 := Scalar.muli arg7 c512_i32
  let v28 : BitVec 32 := v27
  let v29 : Index := Scalar.indexCast v28
  let c0_20 : Index := 0#32
  ![0, 0, v29.toNat, 0]
@[reducible] def k0_t2_loop : Scf.Loop 32 :=
  let c0_i32_10 : BitVec 32 := 0#32
  let c8_i32_11 : BitVec 32 := 8#32
  let v13 : BitVec 32 := Scalar.addi c0_i32_10 c8_i32_11
  let c1_i32_12 : BitVec 32 := 1#32
  ⟨c0_i32_10, v13, c1_i32_12⟩
def k0_mult2 (k0_t2 : Fin k0_t2_loop.trips) : BitVec 32 :=
  let c0_i32_10 : BitVec 32 := 0#32
  let c1_i32_12 : BitVec 32 := 1#32
  let arg7 : BitVec 32 := Scf.iv c0_i32_10 c1_i32_12 k0_t2
  let c512_i32 : BitVec 32 := 512#32
  let v27 : BitVec 32 := Scalar.muli arg7 c512_i32
  v27
def k0_off2 (k0_t2 : Fin k0_t2_loop.trips) : Fin 4 → Nat :=
  let c0_18 : Index := 0#32
  let c1_19 : Index := 1#32
  let c0_i32_10 : BitVec 32 := 0#32
  let c1_i32_12 : BitVec 32 := 1#32
  let arg7 : BitVec 32 := Scf.iv c0_i32_10 c1_i32_12 k0_t2
  let c512_i32 : BitVec 32 := 512#32
  let v27 : BitVec 32 := Scalar.muli arg7 c512_i32
  let v28 : BitVec 32 := v27
  let v29 : Index := Scalar.indexCast v28
  let c0_20 : Index := 0#32
  ![0, 1, v29.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x8x4096x4096 : Shape := ⟨4, ![16, 8, 4096, 4096]⟩
abbrev S16x4096x4096x8 : Shape := ⟨4, ![16, 4096, 4096, 8]⟩
abbrev S_ : Shape := ⟨0, ![]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S16x4096x512 : Shape := ⟨3, ![16, 4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x8x4096x4096, .f32⟩
  | .hbm, ⟨6, _⟩ => ⟨S16x4096x4096x8, .f32⟩
  | .hbm, ⟨7, _⟩ => ⟨S16x8x4096x4096, .f32⟩
  | .hbm, ⟨8, _⟩ => ⟨S16x8x4096x4096, .f32⟩
  | .hbm, ⟨9, _⟩ => ⟨S_, .f32⟩
  | .hbm, ⟨10, _⟩ => ⟨S16x8x4096x4096, .f32⟩
  | .hbm, ⟨11, _⟩ => ⟨S16x8x4096x4096, .f32⟩
  | .hbm, ⟨12, _⟩ => ⟨S_, .f32⟩
  | .hbm, ⟨13, _⟩ => ⟨S16x8x4096, .f32⟩
  | .hbm, ⟨14, _⟩ => ⟨S_, .f32⟩
  | .hbm, ⟨15, _⟩ => ⟨S16x8x4096, .f32⟩
  | .hbm, ⟨16, _⟩ => ⟨S16x8x4096, .f32⟩
  | .hbm, ⟨17, _⟩ => ⟨S16x8x4096x1, .f32⟩
  | .hbm, ⟨18, _⟩ => ⟨S16x8x4096x4096, .f32⟩
  | .hbm, ⟨19, _⟩ => ⟨S16x8x4096x4096, .f32⟩
  | .hbm, ⟨20, _⟩ => ⟨S16x8x4096x4096, .f32⟩
  | .hbm, ⟨21, _⟩ => ⟨S_, .f32⟩
  | .hbm, ⟨22, _⟩ => ⟨S16x8x4096, .f32⟩
  | .hbm, ⟨23, _⟩ => ⟨S16x8x4096x1, .f32⟩
  | .hbm, ⟨24, _⟩ => ⟨S16x8x4096x4096, .f32⟩
  | .hbm, ⟨25, _⟩ => ⟨S16x8x4096x4096, .f32⟩
  | .hbm, ⟨26, _⟩ => ⟨S16x8x64x4096, .f32⟩
  | .hbm, ⟨27, _⟩ => ⟨S16x4096x8x64, .f32⟩
  | .hbm, ⟨28, _⟩ => ⟨S16x4096x512, .f32⟩
  | .hbm, ⟨29, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S65536x1024 : Shape := ⟨2, ![65536, 1024]⟩
abbrev S65536x16 : Shape := ⟨2, ![65536, 16]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S1024x1024 : Shape := ⟨2, ![1024, 1024]⟩
abbrev S1024x16 : Shape := ⟨2, ![1024, 16]⟩
abbrev S1x1024x512 : Shape := ⟨3, ![1, 1024, 512]⟩
abbrev S1x512x1024 : Shape := ⟨3, ![1, 512, 1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1024x512 : Shape := ⟨2, ![1024, 512]⟩
abbrev S512x1024 : Shape := ⟨2, ![512, 1024]⟩

abbrev nBuf : Space → Nat
  | .hbm => 14
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024, .f32⟩
  | .hbm, ⟨6, _⟩ => ⟨S1024, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S1x1024, .f32⟩
  | .hbm, ⟨11, _⟩ => ⟨S1x1024, .f32⟩
  | .hbm, ⟨12, _⟩ => ⟨S65536x1024, .bf16⟩
  | .hbm, ⟨13, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x16, .f32⟩
  | .local _ .vmem, ⟨5, _⟩ => ⟨S1024x16, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 16], ![false, false]⟩

def k0_cond3 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S65536x1024 : Shape := ⟨2, ![65536, 1024]⟩
abbrev S65536x16 : Shape := ⟨2, ![65536, 16]⟩
abbrev S16x1024x512 : Shape := ⟨3, ![16, 1024, 512]⟩
abbrev S16x512x1024 : Shape := ⟨3, ![16, 512, 1024]⟩
abbrev S1024 : Shape := ⟨1, ![1024]⟩
abbrev S16x512x65536 : Shape := ⟨3, ![16, 512, 65536]⟩
abbrev S16x65536x512 : Shape := ⟨3, ![16, 65536, 512]⟩
abbrev S_ : Shape := ⟨0, ![]⟩
abbrev S16x65536x1024 : Shape := ⟨3, ![16, 65536, 1024]⟩
abbrev S16x65536 : Shape := ⟨2, ![16, 65536]⟩
abbrev S16x65536x1 : Shape := ⟨3, ![16, 65536, 1]⟩
abbrev S65536 : Shape := ⟨1, ![65536]⟩
abbrev S65536x1 : Shape := ⟨2, ![65536, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024, .f32⟩
  | .hbm, ⟨6, _⟩ => ⟨S1024, .f32⟩
  | .hbm, ⟨7, _⟩ => ⟨S16x512x65536, .f32⟩
  | .hbm, ⟨8, _⟩ => ⟨S16x65536x512, .f32⟩
  | .hbm, ⟨9, _⟩ => ⟨S16x65536x512, .f32⟩
  | .hbm, ⟨10, _⟩ => ⟨S16x65536x512, .f32⟩
  | .hbm, ⟨11, _⟩ => ⟨S_, .f32⟩
  | .hbm, ⟨12, _⟩ => ⟨S16x65536x512, .f32⟩
  | .hbm, ⟨13, _⟩ => ⟨S16x65536x512, .f32⟩
  | .hbm, ⟨14, _⟩ => ⟨S_, .f32⟩
  | .hbm, ⟨15, _⟩ => ⟨S16x65536x512, .f32⟩
  | .hbm, ⟨16, _⟩ => ⟨S16x65536x512, .f32⟩
  | .hbm, ⟨17, _⟩ => ⟨S16x65536x512, .f32⟩
  | .hbm, ⟨18, _⟩ => ⟨S16x512x65536, .f32⟩
  | .hbm, ⟨19, _⟩ => ⟨S16x65536x512, .f32⟩
  | .hbm, ⟨20, _⟩ => ⟨S16x65536x512, .f32⟩
  | .hbm, ⟨21, _⟩ => ⟨S16x65536x1024, .f32⟩
  | .hbm, ⟨22, _⟩ => ⟨S16x65536, .f32⟩
  | .hbm, ⟨23, _⟩ => ⟨S16x65536x1, .f32⟩
  | .hbm, ⟨24, _⟩ => ⟨S16x65536x1024, .f32⟩
  | .hbm, ⟨25, _⟩ => ⟨S16x65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S1024x1184 : Shape := ⟨2, ![1024, 1184]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x1152 : Shape := ⟨2, ![1024, 1152]⟩
abbrev S_ : Shape := ⟨0, ![]⟩
abbrev S1024x64 : Shape := ⟨2, ![1024, 64]⟩
abbrev S1024x32 : Shape := ⟨2, ![1024, 32]⟩
abbrev S1024x1280 : Shape := ⟨2, ![1024, 1280]⟩
abbrev S384x8x96 : Shape := ⟨3, ![384, 8, 96]⟩
abbrev S384x8x128 : Shape := ⟨3, ![384, 8, 128]⟩
abbrev S256x8x128 : Shape := ⟨3, ![256, 8, 128]⟩
abbrev S256x8x64 : Shape := ⟨3, ![256, 8, 64]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x1024 : Shape := ⟨2, ![1, 1024]⟩
abbrev S1x384 : Shape := ⟨2, ![1, 384]⟩
abbrev S384x1024 : Shape := ⟨2, ![384, 1024]⟩
abbrev S1x256 : Shape := ⟨2, ![1, 256]⟩
abbrev S16x4096x512 : Shape := ⟨3, ![16, 4096, 512]⟩
abbrev S16x8x4096x128 : Shape := ⟨4, ![16, 8, 4096, 128]⟩
abbrev S1x512x1024 : Shape := ⟨3, ![1, 512, 1024]⟩
abbrev S512x128 : Shape := ⟨2, ![512, 128]⟩
abbrev S1x512x512 : Shape := ⟨3, ![1, 512, 512]⟩
abbrev S1x8x512x128 : Shape := ⟨4, ![1, 8, 512, 128]⟩
abbrev S512x1024 : Shape := ⟨2, ![512, 1024]⟩
abbrev S512 : Shape := ⟨1, ![512]⟩
abbrev S512x1 : Shape := ⟨2, ![512, 1]⟩
abbrev S512x1280 : Shape := ⟨2, ![512, 1280]⟩
abbrev S512x512 : Shape := ⟨2, ![512, 512]⟩
abbrev S512x384 : Shape := ⟨2, ![512, 384]⟩
abbrev S512x256 : Shape := ⟨2, ![512, 256]⟩
abbrev S1x1x512x128 : Shape := ⟨4, ![1, 1, 512, 128]⟩

abbrev nBuf : Space → Nat
  | .hbm => 78
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x1184, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S1024x1152, .f32⟩
  | .hbm, ⟨9, _⟩ => ⟨S_, .f32⟩
  | .hbm, ⟨10, _⟩ => ⟨S1024x64, .f32⟩
  | .hbm, ⟨11, _⟩ => ⟨S1024x32, .f32⟩
  | .hbm, ⟨12, _⟩ => ⟨S_, .f32⟩
  | .hbm, ⟨13, _⟩ => ⟨S1024x32, .f32⟩
  | .hbm, ⟨14, _⟩ => ⟨S1024x1280, .f32⟩
  | .hbm, ⟨15, _⟩ => ⟨S384x8x96, .f32⟩
  | .hbm, ⟨16, _⟩ => ⟨S_, .i32⟩
  | .hbm, ⟨17, _⟩ => ⟨S_, .f32⟩
  | .hbm, ⟨18, _⟩ => ⟨S384x8x128, .f32⟩
  | .hbm, ⟨19, _⟩ => ⟨S256x8x128, .f32⟩
  | .hbm, ⟨20, _⟩ => ⟨S256x8x64, .f32⟩
  | .hbm, ⟨21, _⟩ => ⟨S_, .i32⟩
  | .hbm, ⟨22, _⟩ => ⟨S_, .f32⟩
  | .hbm, ⟨23, _⟩ => ⟨S256x8x128, .f32⟩
  | .hbm, ⟨24, _⟩ => ⟨S256x8x64, .f32⟩
  | .hbm, ⟨25, _⟩ => ⟨S_, .i32⟩
  | .hbm, ⟨26, _⟩ => ⟨S_, .f32⟩
  | .hbm, ⟨27, _⟩ => ⟨S256x8x128, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S4096, .f32⟩
  | .hbm, ⟨45, _⟩ => ⟨S4096x1, .f32⟩
  | .hbm, ⟨46, _⟩ => ⟨S1x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S_, .f32⟩
  | .hbm, ⟨53, _⟩ => ⟨S4096x64, .f32⟩
  | .hbm, ⟨54, _⟩ => ⟨S_, .f32⟩
  | .hbm, ⟨55, _⟩ => ⟨S4096x32, .f32⟩
  | .hbm, ⟨56, _⟩ => ⟨S4096x128, .f32⟩
  | .hbm, ⟨57, _⟩ => ⟨S_, .f32⟩
  | .hbm, ⟨58, _⟩ => ⟨S4096x64, .f32⟩
  | .hbm, ⟨59, _⟩ => ⟨S4096x16, .f32⟩
  | .hbm, ⟨60, _⟩ => ⟨S_, .f32⟩
  | .hbm, ⟨61, _⟩ => ⟨S4096x32, .f32⟩
  | .hbm, ⟨62, _⟩ => ⟨S4096x128, .f32⟩
  | .hbm, ⟨63, _⟩ => ⟨S1x1024, .f32⟩
  | .hbm, ⟨64, _⟩ => ⟨S1x1024, .f32⟩
  | .hbm, ⟨65, _⟩ => ⟨S1024x1280, .bf16⟩
  | .hbm, ⟨66, _⟩ => ⟨S1x384, .f32⟩
  | .hbm, ⟨67, _⟩ => ⟨S384x1024, .f32⟩
  | .hbm, ⟨68, _⟩ => ⟨S384x1024, .bf16⟩
  | .hbm, ⟨69, _⟩ => ⟨S1x256, .f32⟩
  | .hbm, ⟨70, _⟩ => ⟨S256x1024, .f32⟩
  | .hbm, ⟨71, _⟩ => ⟨S256x1024, .bf16⟩
  | .hbm, ⟨72, _⟩ => ⟨S256x1024, .f32⟩
  | .hbm, ⟨73, _⟩ => ⟨S256x1024, .bf16⟩
  | .hbm, ⟨74, _⟩ => ⟨S16x4096x512, .f32⟩
  | .hbm, ⟨75, _⟩ => ⟨S16x8x4096x128, .bf16⟩
  | .hbm, ⟨76, _⟩ => ⟨S16x8x4096x128, .bf16⟩
  | .hbm, ⟨77, _⟩ => ⟨S16x8x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1280, .bf16⟩
  | .local _ .vmem, ⟨5, _⟩ => ⟨S1x384, .f32⟩
  | .local _ .vmem, ⟨6, _⟩ => ⟨S384x1024, .bf16⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x512, .f32⟩
  | .local _ .vmem, ⟨15, _⟩ => ⟨S1x512x512, .f32⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v49_2 : Ref sig .tc := ⟨.hbm, 76, rfl⟩
abbrev main_v49_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S16x4096x1024 : Shape := ⟨3, ![16, 4096, 1024]⟩
abbrev S1024 : Shape := ⟨1, ![1024]⟩
abbrev S1024x1184 : Shape := ⟨2, ![1024, 1184]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1184 : Shape := ⟨3, ![16, 4096, 1184]⟩
abbrev S16x4096x384 : Shape := ⟨3, ![16, 4096, 384]⟩
abbrev S1x1x384 : Shape := ⟨3, ![1, 1, 384]⟩
abbrev S16x4096x768 : Shape := ⟨3, ![16, 4096, 768]⟩
abbrev S16x4096x8x96 : Shape := ⟨4, ![16, 4096, 8, 96]⟩
abbrev S16x4096x8x64 : Shape := ⟨4, ![16, 4096, 8, 64]⟩
abbrev S16x4096x8x32 : Shape := ⟨4, ![16, 4096, 8, 32]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S16x4096x8x16 : Shape := ⟨4, ![16, 4096, 8, 16]⟩
abbrev S16x4096x256 : Shape := ⟨3, ![16, 4096, 256]⟩
abbrev S1x1x256 : Shape := ⟨3, ![1, 1, 256]⟩
abbrev S16x4096x8x128 : Shape := ⟨4, ![16, 4096, 8, 128]⟩
abbrev S16x4096x32 : Shape := ⟨3, ![16, 4096, 32]⟩
abbrev S16x4096x1x32 : Shape := ⟨4, ![16, 4096, 1, 32]⟩
abbrev S16x4096x1x16 : Shape := ⟨4, ![16, 4096, 1, 16]⟩
abbrev S16x4096x512 : Shape := ⟨3, ![16, 4096, 512]⟩
abbrev S16x8x4096x128 : Shape := ⟨4, ![16, 8, 4096, 128]⟩

abbrev nBuf : Space → Nat
  | .hbm => 181
  | .vmem => 0
  | .smem => 0
  | _ => 0

abbrev hbmTy0_0 (i : Nat) : BufTy := match i % 128 with
  | 0 => ⟨S16x4096x1024, .f32⟩
  | 1 => ⟨S1024, .f32⟩
  | 2 => ⟨S1024, .f32⟩
  | 3 => ⟨S1024x1184, .f32⟩
  | 4 => ⟨S384, .f32⟩
  | 5 => ⟨S384x768, .f32⟩
  | 6 => ⟨S256, .f32⟩
  | 7 => ⟨S256x1024, .f32⟩
  | 8 => ⟨S_, .f32⟩
  | 9 => ⟨S16x4096, .f32⟩
  | 10 => ⟨S16x4096x1, .f32⟩
  | 11 => ⟨S_, .f32⟩
  | 12 => ⟨S16x4096x1, .f32⟩
  | 13 => ⟨S16x4096x1, .f32⟩
  | 14 => ⟨S16x4096x1024, .f32⟩
  | 15 => ⟨S16x4096x1024, .f32⟩
  | 16 => ⟨S16x4096x1024, .f32⟩
  | 17 => ⟨S_, .f32⟩
  | 18 => ⟨S16x4096, .f32⟩
  | 19 => ⟨S16x4096x1, .f32⟩
  | 20 => ⟨S_, .f32⟩
  | 21 => ⟨S16x4096x1, .f32⟩
  | 22 => ⟨S16x4096x1, .f32⟩
  | 23 => ⟨S16x4096x1024, .f32⟩
  | 24 => ⟨S16x4096x1024, .f32⟩
  | 25 => ⟨S_, .f32⟩
  | 26 => ⟨S16x4096x1, .f32⟩
  | 27 => ⟨S16x4096x1, .f32⟩
  | 28 => ⟨S16x4096x1, .f32⟩
  | 29 => ⟨S16x4096x1024, .f32⟩
  | 30 => ⟨S16x4096x1024, .f32⟩
  | 31 => ⟨S1x1x1024, .f32⟩
  | 32 => ⟨S16x4096x1024, .f32⟩
  | 33 => ⟨S16x4096x1024, .f32⟩
  | 34 => ⟨S1x1x1024, .f32⟩
  | 35 => ⟨S16x4096x1024, .f32⟩
  | 36 => ⟨S16x4096x1024, .f32⟩
  | 37 => ⟨S16x4096x1184, .f32⟩
  | 38 => ⟨S16x4096x384, .f32⟩
  | 39 => ⟨S16x4096x384, .f32⟩
  | 40 => ⟨S_, .f32⟩
  | 41 => ⟨S16x4096, .f32⟩
  | 42 => ⟨S16x4096x1, .f32⟩
  | 43 => ⟨S_, .f32⟩
  | 44 => ⟨S16x4096x1, .f32⟩
  | 45 => ⟨S16x4096x1, .f32⟩
  | 46 => ⟨S_, .f32⟩
  | 47 => ⟨S16x4096x1, .f32⟩
  | 48 => ⟨S16x4096x1, .f32⟩
  | 49 => ⟨S16x4096x1, .f32⟩
  | 50 => ⟨S16x4096x384, .f32⟩
  | 51 => ⟨S16x4096x384, .f32⟩
  | 52 => ⟨S1x1x384, .f32⟩
  | 53 => ⟨S16x4096x384, .f32⟩
  | 54 => ⟨S16x4096x384, .f32⟩
  | 55 => ⟨S16x4096x768, .f32⟩
  | 56 => ⟨S16x4096x8x96, .f32⟩
  | 57 => ⟨S16x4096x8x64, .f32⟩
  | 58 => ⟨S16x4096x8x32, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S4096, .f32⟩
  | 76 => ⟨S4096x1, .f32⟩
  | 77 => ⟨S1x16, .f32⟩
  | 78 => ⟨S4096x16, .f32⟩
  | 79 => ⟨S4096x16, .f32⟩
  | 80 => ⟨S4096x16, .f32⟩
  | 81 => ⟨S4096x16, .f32⟩
  | 82 => ⟨S1x4096x1x16, .f32⟩
  | 83 => ⟨S4096x16, .f32⟩
  | 84 => ⟨S1x4096x1x16, .f32⟩
  | 85 => ⟨S16x4096x8x16, .f32⟩
  | 86 => ⟨S16x4096x8x16, .f32⟩
  | 87 => ⟨S16x4096x8x16, .f32⟩
  | 88 => ⟨S16x4096x8x16, .f32⟩
  | 89 => ⟨S16x4096x8x16, .f32⟩
  | 90 => ⟨S16x4096x8x16, .f32⟩
  | 91 => ⟨S16x4096x8x16, .f32⟩
  | 92 => ⟨S16x4096x8x16, .f32⟩
  | 93 => ⟨S16x4096x8x16, .f32⟩
  | 94 => ⟨S16x4096x8x16, .f32⟩
  | 95 => ⟨S16x4096x8x16, .f32⟩
  | 96 => ⟨S16x4096x8x16, .f32⟩
  | 97 => ⟨S16x4096x8x32, .f32⟩
  | 98 => ⟨S16x4096x256, .f32⟩
  | 99 => ⟨S16x4096x256, .f32⟩
  | 100 => ⟨S_, .f32⟩
  | 101 => ⟨S16x4096, .f32⟩
  | 102 => ⟨S16x4096x1, .f32⟩
  | 103 => ⟨S_, .f32⟩
  | 104 => ⟨S16x4096x1, .f32⟩
  | 105 => ⟨S16x4096x1, .f32⟩
  | 106 => ⟨S_, .f32⟩
  | 107 => ⟨S16x4096x1, .f32⟩
  | 108 => ⟨S16x4096x1, .f32⟩
  | 109 => ⟨S16x4096x1, .f32⟩
  | 110 => ⟨S16x4096x256, .f32⟩
  | 111 => ⟨S16x4096x256, .f32⟩
  | 112 => ⟨S1x1x256, .f32⟩
  | 113 => ⟨S16x4096x256, .f32⟩
  | 114 => ⟨S16x4096x256, .f32⟩
  | 115 => ⟨S16x4096x1024, .f32⟩
  | 116 => ⟨S16x4096x8x128, .f32⟩
  | 117 => ⟨S16x4096x8x64, .f32⟩
  | 118 => ⟨S16x4096x8x64, .f32⟩
  | 119 => ⟨S16x4096x32, .f32⟩
  | 120 => ⟨S16x4096x1x32, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S16x4096x1024, .f32⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S4096, .f32⟩
  | 10 => ⟨S4096x1, .f32⟩
  | 11 => ⟨S1x16, .f32⟩
  | 12 => ⟨S4096x16, .f32⟩
  | 13 => ⟨S4096x16, .f32⟩
  | 14 => ⟨S4096x16, .f32⟩
  | 15 => ⟨S4096x16, .f32⟩
  | 16 => ⟨S1x4096x1x16, .f32⟩
  | 17 => ⟨S4096x16, .f32⟩
  | 18 => ⟨S1x4096x1x16, .f32⟩
  | 19 => ⟨S16x4096x1x16, .f32⟩
  | 20 => ⟨S16x4096x1x16, .f32⟩
  | 21 => ⟨S16x4096x1x16, .f32⟩
  | 22 => ⟨S16x4096x1x16, .f32⟩
  | 23 => ⟨S16x4096x1x16, .f32⟩
  | 24 => ⟨S16x4096x1x16, .f32⟩
  | 25 => ⟨S16x4096x1x16, .f32⟩
  | 26 => ⟨S16x4096x1x16, .f32⟩
  | 27 => ⟨S16x4096x1x16, .f32⟩
  | 28 => ⟨S16x4096x1x16, .f32⟩
  | 29 => ⟨S16x4096x1x16, .f32⟩
  | 30 => ⟨S16x4096x1x16, .f32⟩
  | 31 => ⟨S16x4096x1x32, .f32⟩
  | 32 => ⟨S16x4096x8x32, .f32⟩
  | 33 => ⟨S_, .f32⟩
  | 34 => ⟨S16x4096x8x32, .f32⟩
  | 35 => ⟨S_, .f32⟩
  | 36 => ⟨S16x4096x8x64, .f32⟩
  | 37 => ⟨S16x4096x512, .f32⟩
  | 38 => ⟨S_, .f32⟩
  | 39 => ⟨S16x4096x8x64, .f32⟩
  | 40 => ⟨S16x4096x8x64, .f32⟩
  | 41 => ⟨S_, .f32⟩
  | 42 => ⟨S16x4096x8x32, .f32⟩
  | 43 => ⟨S16x4096x8x32, .f32⟩
  | 44 => ⟨S16x4096x8x128, .f32⟩
  | 45 => ⟨S16x8x4096x128, .f32⟩
  | 46 => ⟨S16x8x4096x128, .bf16⟩
  | 47 => ⟨S16x4096x8x128, .f32⟩
  | 48 => ⟨S16x8x4096x128, .f32⟩
  | 49 => ⟨S16x8x4096x128, .bf16⟩
  | 50 => ⟨S16x4096x8x128, .f32⟩
  | 51 => ⟨S16x8x4096x128, .f32⟩
  | 52 => ⟨S16x8x4096x128, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_15 : Ref sig .tc := ⟨.hbm, 122, rfl⟩
abbrev main_v98 : Ref sig .tc := ⟨.hbm, 123, rfl⟩
abbrev main_v99 : Ref sig .tc := ⟨.hbm, 124, rfl⟩
abbrev main_cst_16 : Ref sig .tc := ⟨.hbm, 125, rfl⟩
abbrev main_v100 : Ref sig .tc := ⟨.hbm, 126, rfl⟩
abbrev main_v101 : Ref sig .tc := ⟨.hbm, 127, rfl⟩
abbrev main_cst_17 : Ref sig .tc := ⟨.hbm, 128, rfl⟩
abbrev main_v102 : Ref sig .tc := ⟨.hbm, 129, rfl⟩
abbrev main_v103 : Ref sig .tc := ⟨.hbm, 130, rfl⟩
abbrev main_cst_18 : Ref sig .tc := ⟨.hbm, 131, rfl⟩
abbrev main_v104 : Ref sig .tc := ⟨.hbm, 132, rfl⟩
abbrev main_v105 : Ref sig .tc := ⟨.hbm, 133, rfl⟩
abbrev main_cst_19 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_20 : Ref sig .tc := ⟨.hbm, 161, rfl⟩
abbrev main_v132 : Ref sig .tc := ⟨.hbm, 162, rfl⟩
abbrev main_cst_21 : Ref sig .tc := ⟨.hbm, 163, rfl⟩
abbrev main_v133 : Ref sig .tc := ⟨.hbm, 164, rfl⟩
abbrev main_v134 : Ref sig .tc := ⟨.hbm, 165, rfl⟩
abbrev main_cst_22 : Ref sig .tc := ⟨.hbm, 166, rfl⟩
abbrev main_v135 : Ref sig .tc := ⟨.hbm, 167, rfl⟩
abbrev main_v136 : Ref sig .tc := ⟨.hbm, 168, rfl⟩
abbrev main_cst_23 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x4096x512 : Shape := ⟨3, ![16, 4096, 512]⟩
abbrev S1024 : Shape := ⟨1, ![1024]⟩
abbrev S4x128x128 : Shape := ⟨3, ![4, 128, 128]⟩
abbrev S512 : Shape := ⟨1, ![512]⟩
abbrev S1024x1024 : Shape := ⟨2, ![1024, 1024]⟩
abbrev S1024x16 : Shape := ⟨2, ![1024, 16]⟩
abbrev S1x1024 : Shape := ⟨2, ![1, 1024]⟩
abbrev S1x512 : Shape := ⟨2, ![1, 512]⟩
abbrev S16x4096x16 : Shape := ⟨3, ![16, 4096, 16]⟩
abbrev S1x512x1024 : Shape := ⟨3, ![1, 512, 1024]⟩
abbrev S1x8x512 : Shape := ⟨3, ![1, 8, 512]⟩
abbrev S1x512x512 : Shape := ⟨3, ![1, 512, 512]⟩
abbrev S1x512x16 : Shape := ⟨3, ![1, 512, 16]⟩
abbrev S528x512 : Shape := ⟨2, ![528, 512]⟩
abbrev S512x1024 : Shape := ⟨2, ![512, 1024]⟩
abbrev S512x1 : Shape := ⟨2, ![512, 1]⟩
abbrev S8x512 : Shape := ⟨2, ![8, 512]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128x1024 : Shape := ⟨2, ![128, 1024]⟩
abbrev S512x16 : Shape := ⟨2, ![512, 16]⟩

abbrev nBuf : Space → Nat
  | .hbm => 21
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .bf16⟩
  | .hbm, ⟨3, _⟩ => ⟨S1024, .f32⟩
  | .hbm, ⟨4, _⟩ => ⟨S1024, .f32⟩
  | .hbm, ⟨5, _⟩ => ⟨S4x128x128, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x16, .f32⟩
  | .hbm, ⟨11, _⟩ => ⟨S1x1024, .f32⟩
  | .hbm, ⟨12, _⟩ => ⟨S1x1024, .f32⟩
  | .hbm, ⟨13, _⟩ => ⟨S4x128x128, .bf16⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S16x4096x1024, .f32⟩
  | .hbm, ⟨19, _⟩ => ⟨S16x4096x1024, .bf16⟩
  | .hbm, ⟨20, _⟩ => ⟨S16x4096x16, .f32⟩
  | .local _ .vmem, ⟨0, _⟩ => ⟨S1x512x1024, .f32⟩
  | .local _ .vmem, ⟨1, _⟩ => ⟨S1x512x1024, .f32⟩
  | .local _ .vmem, ⟨2, _⟩ => ⟨S1x8x512, .f32⟩
  | .local _ .vmem, ⟨3, _⟩ => ⟨S1x8x512, .f32⟩
  | .local _ .vmem, ⟨4, _⟩ => ⟨S1x512x512, .f32⟩
  | .local _ .vmem, ⟨5, _⟩ => ⟨S1x512x512, .f32⟩
  | .local _ .vmem, ⟨6, _⟩ => ⟨S1x8x512, .f32⟩
  | .local _ .vmem, ⟨7, _⟩ => ⟨S1x8x512, .f32⟩
  | .local _ .vmem, ⟨8, _⟩ => ⟨S1x512x512, .bf16⟩
  | .local _ .vmem, ⟨9, _⟩ => ⟨S1x512x512, .bf16⟩
  | .local _ .vmem, ⟨10, _⟩ => ⟨S1x1024, .f32⟩
  | .local _ .vmem, ⟨11, _⟩ => ⟨S1x1024, .f32⟩
  | .local _ .vmem, ⟨12, _⟩ => ⟨S4x128x128, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x16, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x16, .f32⟩
  | .local _ .vmem, ⟨23, _⟩ => ⟨S1x512x16, .f32⟩
  | .local _ .vmem, ⟨24, _⟩ => ⟨S528x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S16x4096x1024 : Shape := ⟨3, ![16, 4096, 1024]⟩
abbrev S16x4096x512 : Shape := ⟨3, ![16, 4096, 512]⟩
abbrev S1024 : Shape := ⟨1, ![1024]⟩
abbrev S4x128x128 : Shape := ⟨3, ![4, 128, 128]⟩
abbrev S512 : Shape := ⟨1, ![512]⟩
abbrev S1024x1024 : Shape := ⟨2, ![1024, 1024]⟩
abbrev S1024x16 : Shape := ⟨2, ![1024, 16]⟩
abbrev S_ : Shape := ⟨0, ![]⟩
abbrev S16x4112x512 : Shape := ⟨3, ![16, 4112, 512]⟩
abbrev S4096 : Shape := ⟨1, ![4096]⟩
abbrev S16x4096x128 : Shape := ⟨3, ![16, 4096, 128]⟩
abbrev S1x4096x1 : Shape := ⟨3, ![1, 4096, 1]⟩
abbrev S16x4096x1x128 : Shape := ⟨4, ![16, 4096, 1, 128]⟩
abbrev S16x4096x4x128 : Shape := ⟨4, ![16, 4096, 4, 128]⟩
abbrev S4x128x16x4096 : Shape := ⟨4, ![4, 128, 16, 4096]⟩
abbrev S1x1x512 : Shape := ⟨3, ![1, 1, 512]⟩
abbrev S16x4096 : Shape := ⟨2, ![16, 4096]⟩
abbrev S16x4096x1 : Shape := ⟨3, ![16, 4096, 1]⟩
abbrev S1x1x1024 : Shape := ⟨3, ![1, 1, 1024]⟩
abbrev S16x4096x16 : Shape := ⟨3, ![16, 4096, 16]⟩

abbrev nBuf : Space → Nat
  | .hbm => 303
  | .vmem => 0
  | .smem => 0
  | _ => 0

abbrev hbmTy0_0 (i : Nat) : BufTy := match i % 128 with
  | 0 => ⟨S16x4096x1024, .f32⟩
  | 1 => ⟨S16x4096x512, .f32⟩
  | 2 => ⟨S16x4096x512, .bf16⟩
  | 3 => ⟨S1024, .f32⟩
  | 4 => ⟨S1024, .f32⟩
  | 5 => ⟨S4x128x128, .f32⟩
  | 6 => ⟨S512, .f32⟩
  | 7 => ⟨S1024x1024, .f32⟩
  | 8 => ⟨S1024, .f32⟩
  | 9 => ⟨S1024, .f32⟩
  | 10 => ⟨S1024x16, .f32⟩
  | 11 => ⟨S_, .i32⟩
  | 12 => ⟨S_, .f32⟩
  | 13 => ⟨S16x4112x512, .f32⟩
  | 14 => ⟨S4096, .i32⟩
  | 15 => ⟨S16x4096x128, .f32⟩
  | 16 => ⟨S16x4096x128, .f32⟩
  | 17 => ⟨S_, .i32⟩
  | 18 => ⟨S4096, .i32⟩
  | 19 => ⟨S4096, .i32⟩
  | 20 => ⟨S_, .i32⟩
  | 21 => ⟨S_, .i32⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S1x4096x1, .f32⟩
  | 48 => ⟨S16x4096x128, .f32⟩
  | 49 => ⟨S16x4096x128, .f32⟩
  | 50 => ⟨S16x4096x128, .f32⟩
  | 51 => ⟨S16x4096x128, .f32⟩
  | 52 => ⟨S16x4096x128, .f32⟩
  | 53 => ⟨S16x4096x128, .f32⟩
  | 54 => ⟨S16x4096x128, .f32⟩
  | 55 => ⟨S16x4096x128, .f32⟩
  | 56 => ⟨S16x4096x128, .f32⟩
  | 57 => ⟨S_, .i32⟩
  | 58 => ⟨S4096, .i32⟩
  | 59 => ⟨S4096, .i32⟩
  | 60 => ⟨S_, .i32⟩
  | 61 => ⟨S_, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096, .f32⟩
  | 87 => ⟨S1x4096x1, .f32⟩
  | 88 => ⟨S16x4096x128, .f32⟩
  | 89 => ⟨S16x4096x128, .f32⟩
  | 90 => ⟨S16x4096x128, .f32⟩
  | 91 => ⟨S16x4096x128, .f32⟩
  | 92 => ⟨S16x4096x128, .f32⟩
  | 93 => ⟨S16x4096x128, .f32⟩
  | 94 => ⟨S16x4096x128, .f32⟩
  | 95 => ⟨S16x4096x128, .f32⟩
  | 96 => ⟨S16x4096x128, .f32⟩
  | 97 => ⟨S16x4096x128, .f32⟩
  | 98 => ⟨S16x4096x128, .f32⟩
  | 99 => ⟨S16x4096x128, .f32⟩
  | 100 => ⟨S16x4096x128, .f32⟩
  | 101 => ⟨S16x4096x128, .f32⟩
  | 102 => ⟨S16x4096x128, .f32⟩
  | 103 => ⟨S_, .i32⟩
  | 104 => ⟨S4096, .i32⟩
  | 105 => ⟨S4096, .i32⟩
  | 106 => ⟨S_, .i32⟩
  | 107 => ⟨S_, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S_, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S16x4096x1024, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S4096, .f32⟩
  | 5 => ⟨S1x4096x1, .f32⟩
  | 6 => ⟨S16x4096x128, .f32⟩
  | 7 => ⟨S16x4096x128, .f32⟩
  | 8 => ⟨S16x4096x128, .f32⟩
  | 9 => ⟨S16x4096x128, .f32⟩
  | 10 => ⟨S16x4096x128, .f32⟩
  | 11 => ⟨S16x4096x128, .f32⟩
  | 12 => ⟨S16x4096x128, .f32⟩
  | 13 => ⟨S16x4096x128, .f32⟩
  | 14 => ⟨S16x4096x128, .f32⟩
  | 15 => ⟨S16x4096x128, .f32⟩
  | 16 => ⟨S16x4096x128, .f32⟩
  | 17 => ⟨S16x4096x128, .f32⟩
  | 18 => ⟨S16x4096x128, .f32⟩
  | 19 => ⟨S16x4096x128, .f32⟩
  | 20 => ⟨S16x4096x128, .f32⟩
  | 21 => ⟨S16x4096x128, .f32⟩
  | 22 => ⟨S16x4096x128, .f32⟩
  | 23 => ⟨S16x4096x128, .f32⟩
  | 24 => ⟨S16x4096x128, .f32⟩
  | 25 => ⟨S16x4096x128, .f32⟩
  | 26 => ⟨S16x4096x128, .f32⟩
  | 27 => ⟨S16x4096x128, .f32⟩
  | 28 => ⟨S16x4096x128, .f32⟩
  | 29 => ⟨S16x4096x128, .f32⟩
  | 30 => ⟨S16x4096x128, .f32⟩
  | 31 => ⟨S16x4096x128, .f32⟩
  | 32 => ⟨S16x4096x128, .f32⟩
  | 33 => ⟨S_, .i32⟩
  | 34 => ⟨S4096, .i32⟩
  | 35 => ⟨S4096, .i32⟩
  | 36 => ⟨S_, .i32⟩
  | 37 => ⟨S_, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S_, .i32⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S1x4096x1, .f32⟩
  | 64 => ⟨S16x4096x128, .f32⟩
  | 65 => ⟨S16x4096x128, .f32⟩
  | 66 => ⟨S16x4096x128, .f32⟩
  | 67 => ⟨S16x4096x128, .f32⟩
  | 68 => ⟨S16x4096x128, .f32⟩
  | 69 => ⟨S16x4096x128, .f32⟩
  | 70 => ⟨S16x4096x128, .f32⟩
  | 71 => ⟨S16x4096x128, .f32⟩
  | 72 => ⟨S16x4096x128, .f32⟩
  | 73 => ⟨S16x4096x128, .f32⟩
  | 74 => ⟨S16x4096x128, .f32⟩
  | 75 => ⟨S16x4096x128, .f32⟩
  | 76 => ⟨S16x4096x128, .f32⟩
  | 77 => ⟨S16x4096x128, .f32⟩
  | 78 => ⟨S16x4096x128, .f32⟩
  | 79 => ⟨S16x4096x128, .f32⟩
  | 80 => ⟨S16x4096x128, .f32⟩
  | 81 => ⟨S16x4096x128, .f32⟩
  | 82 => ⟨S16x4096x128, .f32⟩
  | 83 => ⟨S16x4096x1x128, .f32⟩
  | 84 => ⟨S16x4096x1x128, .f32⟩
  | 85 => ⟨S16x4096x1x128, .f32⟩
  | 86 => ⟨S16x4096x1x128, .f32⟩
  | 87 => ⟨S16x4096x4x128, .f32⟩
  | 88 => ⟨S4x128x16x4096, .f32⟩
  | 89 => ⟨S16x4096x4x128, .f32⟩
  | 90 => ⟨S16x4096x512, .f32⟩
  | 91 => ⟨S1x1x512, .f32⟩
  | 92 => ⟨S16x4096x512, .f32⟩
  | 93 => ⟨S16x4096x512, .f32⟩
  | 94 => ⟨S16x4096x512, .f32⟩
  | 95 => ⟨S16x4096x1024, .f32⟩
  | 96 => ⟨S16x4096x1024, .f32⟩
  | 97 => ⟨S_, .f32⟩
  | 98 => ⟨S16x4096, .f32⟩
  | 99 => ⟨S16x4096x1, .f32⟩
  | 100 => ⟨S_, .f32⟩
  | 101 => ⟨S16x4096x1, .f32⟩
  | 102 => ⟨S16x4096x1, .f32⟩
  | 103 => ⟨S16x4096x1024, .f32⟩
  | 104 => ⟨S16x4096x1024, .f32⟩
  | 105 => ⟨S16x4096x1024, .f32⟩
  | 106 => ⟨S_, .f32⟩
  | 107 => ⟨S16x4096, .f32⟩
  | 108 => ⟨S16x4096x1, .f32⟩
  | 109 => ⟨S_, .f32⟩
  | 110 => ⟨S16x4096x1, .f32⟩
  | 111 => ⟨S16x4096x1, .f32⟩
  | 112 => ⟨S16x4096x1024, .f32⟩
  | 113 => ⟨S16x4096x1024, .f32⟩
  | 114 => ⟨S_, .f32⟩
  | 115 => ⟨S16x4096x1, .f32⟩
  | 116 => ⟨S16x4096x1, .f32⟩
  | 117 => ⟨S16x4096x1, .f32⟩
  | 118 => ⟨S16x4096x1024, .f32⟩
  | 119 => ⟨S16x4096x1024, .f32⟩
  | 120 => ⟨S1x1x1024, .f32⟩
  | 121 => ⟨S16x4096x1024, .f32⟩
  | 122 => ⟨S16x4096x1024, .f32⟩
  | 123 => ⟨S1x1x1024, .f32⟩
  | 124 => ⟨S16x4096x1024, .f32⟩
  | 125 => ⟨S16x4096x1024, .f32⟩
  | 126 => ⟨S_, .f32⟩
  | 127 => ⟨S16x4096x1024, .f32⟩
  | _ => ⟨S16x4096x1024, .f32⟩

abbrev hbmTy0_2 (i : Nat) : BufTy := match i % 128 with
  | 0 => ⟨S16x4096x1024, .f32⟩
  | 1 => ⟨S16x4096x1024, .f32⟩
  | 2 => ⟨S_, .f32⟩
  | 3 => ⟨S16x4096, .f32⟩
  | 4 => ⟨S16x4096x1, .f32⟩
  | 5 => ⟨S_, .f32⟩
  | 6 => ⟨S16x4096x1, .f32⟩
  | 7 => ⟨S16x4096x1, .f32⟩
  | 8 => ⟨S16x4096x1024, .f32⟩
  | 9 => ⟨S16x4096x1024, .f32⟩
  | 10 => ⟨S16x4096x1024, .f32⟩
  | 11 => ⟨S_, .f32⟩
  | 12 => ⟨S16x4096, .f32⟩
  | 13 => ⟨S16x4096x1, .f32⟩
  | 14 => ⟨S_, .f32⟩
  | 15 => ⟨S16x4096x1, .f32⟩
  | 16 => ⟨S16x4096x1, .f32⟩
  | 17 => ⟨S16x4096x1024, .f32⟩
  | 18 => ⟨S16x4096x1024, .f32⟩
  | 19 => ⟨S_, .f32⟩
  | 20 => ⟨S16x4096x1, .f32⟩
  | 21 => ⟨S16x4096x1, .f32⟩
  | 22 => ⟨S16x4096x1, .f32⟩
  | 23 => ⟨S16x4096x1024, .f32⟩
  | 24 => ⟨S16x4096x1024, .f32⟩
  | 25 => ⟨S1x1x1024, .f32⟩
  | 26 => ⟨S16x4096x1024, .f32⟩
  | 27 => ⟨S16x4096x1024, .f32⟩
  | 28 => ⟨S1x1x1024, .f32⟩
  | 29 => ⟨S16x4096x1024, .f32⟩
  | 30 => ⟨S16x4096x1024, .f32⟩
  | 31 => ⟨S16x4096x16, .f32⟩
  | 32 => ⟨S_, .f32⟩
  | 33 => ⟨S16x4096, .f32⟩
  | 34 => ⟨S_, .f32⟩
  | 35 => ⟨S16x4096, .f32⟩
  | 36 => ⟨S16x4096, .f32⟩
  | 37 => ⟨S16x4096x1, .f32⟩
  | 38 => ⟨S16x4096x16, .f32⟩
  | 39 => ⟨S16x4096x16, .f32⟩
  | 40 => ⟨S16x4096x16, .f32⟩
  | 41 => ⟨S_, .f32⟩
  | 42 => ⟨S16x4096, .f32⟩
  | 43 => ⟨S16x4096x1, .f32⟩
  | 44 => ⟨S16x4096x16, .f32⟩
  | 45 => ⟨S16x4096x16, .f32⟩
  | 46 => ⟨S16x4096x1024, .bf16⟩
  | _ => ⟨S16x4096x1024, .f32⟩

abbrev hbmTy (i : Nat) : BufTy := match i / 128 with
  | 0 => hbmTy0_0 i
  | 1 => hbmTy0_1 i
  | 2 => hbmTy0_2 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v6 : Ref sig .tc := ⟨.hbm, 27, rfl⟩
abbrev main_c_3 : Ref sig .tc := ⟨.hbm, 28, rfl⟩
abbrev main_v7 : Ref sig .tc := ⟨.hbm, 29, rfl⟩
abbrev main_v8 : Ref sig .tc := ⟨.hbm, 30, rfl⟩
abbrev main_c_4 : Ref sig .tc := ⟨.hbm, 31, rfl⟩
abbrev main_v9 : Ref sig .tc := ⟨.hbm, 32, rfl⟩
abbrev main_v10 : Ref sig .tc := ⟨.hbm, 33, rfl⟩
abbrev main_c_5 : Ref sig .tc := ⟨.hbm, 34, rfl⟩
abbrev main_c_6 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v11 : Ref sig .tc := ⟨.hbm, 41, rfl⟩
abbrev main_v12 : Ref sig .tc := ⟨.hbm, 42, rfl⟩
abbrev main_c_7 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_8 : Ref sig .tc := ⟨.hbm, 57, rfl⟩
abbrev main_v26 : Ref sig .tc := ⟨.hbm, 58, rfl⟩
abbrev main_v27 : Ref sig .tc := ⟨.hbm, 59, rfl⟩
abbrev main_c_9 : Ref sig .tc := ⟨.hbm, 60, rfl⟩
abbrev main_c_10 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v28 : Ref sig .tc := ⟨.hbm, 67, rfl⟩
abbrev main_c_11 : Ref sig .tc := ⟨.hbm, 68, rfl⟩
abbrev main_v29 : Ref sig .tc := ⟨.hbm, 69, rfl⟩
abbrev main_v30 : Ref sig .tc := ⟨.hbm, 70, rfl⟩
abbrev main_c_12 : Ref sig .tc := ⟨.hbm, 71, rfl⟩
abbrev main_v31 : Ref sig .tc := ⟨.hbm, 72, rfl⟩
abbrev main_v32 : Ref sig .tc := ⟨.hbm, 73, rfl⟩
abbrev main_c_13 : Ref sig .tc := ⟨.hbm, 74, rfl⟩
abbrev main_c_14 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v33 : Ref sig .tc := ⟨.hbm, 81, rfl⟩
abbrev main_v34 : Ref sig .tc := ⟨.hbm, 82, rfl⟩
abbrev main_c_15 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_c_16 : Ref sig .tc := ⟨.hbm, 103, rfl⟩
abbrev main_v54 : Ref sig .tc := ⟨.hbm, 104, rfl⟩
abbrev main_v55 : Ref sig .tc := ⟨.hbm, 105, rfl⟩
abbrev main_c_17 : Ref sig .tc := ⟨.hbm, 106, rfl⟩
abbrev main_c_18 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_v56 : Ref sig .tc := ⟨.hbm, 113, rfl⟩
abbrev main_c_19 : Ref sig .tc := ⟨.hbm, 114, rfl⟩
abbrev main_v57 : Ref sig .tc := ⟨.hbm, 115, rfl⟩
abbrev main_v58 : Ref sig .tc := ⟨.hbm, 116, rfl⟩
abbrev main_c_20 : Ref sig .tc := ⟨.hbm, 117, rfl⟩
abbrev main_v59 : Ref sig .tc := ⟨.hbm, 118, rfl⟩
abbrev main_v60 : Ref sig .tc := ⟨.hbm, 119, rfl⟩
abbrev main_c_21 : Ref sig .tc := ⟨.hbm, 120, rfl⟩
abbrev main_c_22 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v61 : Ref sig .tc := ⟨.hbm, 127, rfl⟩
abbrev main_v62 : Ref sig .tc := ⟨.hbm, 128, rfl⟩
abbrev main_c_23 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_24 : Ref sig .tc := ⟨.hbm, 161, rfl⟩
abbrev main_v94 : Ref sig .tc := ⟨.hbm, 162, rfl⟩
abbrev main_v95 : Ref sig .tc := ⟨.hbm, 163, rfl⟩
abbrev main_c_25 : Ref sig .tc := ⟨.hbm, 164, rfl⟩
abbrev main_c_26 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_v96 : Ref sig .tc := ⟨.hbm, 171, rfl⟩
abbrev main_c_27 : Ref sig .tc := ⟨.hbm, 172, rfl⟩
abbrev main_v97 : Ref sig .tc := ⟨.hbm, 173, rfl⟩
abbrev main_v98 : Ref sig .tc := ⟨.hbm, 174, rfl⟩
abbrev main_c_28 : Ref sig .tc := ⟨.hbm, 175, rfl⟩
abbrev main_v99 : Ref sig .tc := ⟨.hbm, 176, rfl⟩
abbrev main_v100 : Ref sig .tc := ⟨.hbm, 177, rfl⟩
abbrev main_c_29 : Ref sig .tc := ⟨.hbm, 178, rfl⟩
abbrev main_c_30 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_v101 : Ref sig .tc := ⟨.hbm, 185, rfl⟩
abbrev main_v102 : Ref sig .tc := ⟨.hbm, 186, rfl⟩
abbrev main_c_31 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_cst : Ref sig .tc := ⟨.hbm, 225, rfl⟩
abbrev main_v140 : Ref sig .tc := ⟨.hbm, 226, rfl⟩
abbrev main_v141 : Ref sig .tc := ⟨.hbm, 227, rfl⟩
abbrev main_cst_32 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_cst_33 : Ref sig .tc := ⟨.hbm, 234, rfl⟩
abbrev main_v147 : Ref sig .tc := ⟨.hbm, 235, rfl⟩
abbrev main_v148 : Ref sig .tc := ⟨.hbm, 236, rfl⟩
abbrev main_cst_34 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_cst_35 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_cst_36 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_cst_37 : Ref sig .tc := ⟨.hbm, 258, rfl⟩
abbrev main_v167 : Ref sig .tc := ⟨.hbm, 259, rfl⟩
abbrev main_v168 : Ref sig .tc := ⟨.hbm, 260, rfl⟩
abbrev main_cst_38 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_cst_39 : Ref sig .tc := ⟨.hbm, 267, rfl⟩
abbrev main_v174 : Ref sig .tc := ⟨.hbm, 268, rfl⟩
abbrev main_v175 : Ref sig .tc := ⟨.hbm, 269, rfl⟩
abbrev main_cst_40 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_cst_41 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_cst_42 : Ref sig .tc := ⟨.hbm, 288, rfl⟩
abbrev main_v192 : Ref sig .tc := ⟨.hbm, 289, rfl⟩
abbrev main_cst_43 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_cst_44 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩

abbrev nD : Nat := 1
abbrev τ : Topo := Topo.v7x

variable {F : FTy → Type} [FloatOps F]
-- ==== Proof.Softmax.lean ====
/-
  The online softmax of one row over the extended reals. A row's scores come in chunks; the running maximum and the
  running weighted sum, rescaled whenever the maximum moves, end at the maximum of the row and the weighted sum at that
  maximum (`run_max`, `run_acc`). With real scores the quotient of two such sums is the sum weighted by the softmax
  (`quotient_eq`).
-/
module

public import Idealize.ShloMosaic.Lib.Pointwise

@[expose] public section

noncomputable section

namespace Cert.Softmax

open Idealize.ShloMosaic

/-- A nonnegative real factor goes through a finite sum of extended reals, infinite terms included. -/
theorem mul_sum_real {ι : Type*} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hc) (EReal.coe_ne_top c) _ _

/-- A finite sum of reals, read as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a real. -/
theorem exp_real (r : ℝ) : Ideal.exp (r : EReal) = (Real.exp r : EReal) := rfl

/-- Below a real maximum, moving the reference point multiplies the weight by the exponential of the move. -/
theorem exp_move (s m m' : ℝ) :
    Ideal.exp ((s : EReal) - m) * Ideal.exp ((m : EReal) - m') = Ideal.exp ((s : EReal) - m') := by
  rw [← EReal.coe_sub, ← EReal.coe_sub, ← EReal.coe_sub, exp_real, exp_real, exp_real, ← EReal.coe_mul,
    ← Real.exp_add]
  congr 2
  ring

variable {n : ℕ}

/-- The running maximum after `k` chunks, from `⊥`. -/
def runMax (s : ℕ → Fin n → EReal) : ℕ → EReal
  | 0 => ⊥
  | k + 1 => max (runMax s k) (Finset.univ.fold max ⊥ (s k))

/-- The running weighted sum after `k` chunks: the sum so far, brought to the new maximum, and the new chunk's terms. -/
def runAcc (s v : ℕ → Fin n → EReal) : ℕ → EReal
  | 0 => 0
  | k + 1 => runAcc s v k * Ideal.exp (runMax s k - runMax s (k + 1))
      + ∑ j, Ideal.exp (s k j - runMax s (k + 1)) * v k j

/-- The running maximum is the least upper bound of the scores met. -/
theorem runMax_le (s : ℕ → Fin n → EReal) (c : EReal) (K : ℕ) :
    runMax s K ≤ c ↔ ∀ k < K, ∀ j, s k j ≤ c := by
  induction K with
  | zero => simp [runMax]
  | succ K ih =>
    rw [runMax, max_le_iff, ih, Finset.fold_max_le]
    constructor
    · rintro ⟨h, -, h'⟩ k hk j
      rcases Nat.lt_succ_iff_lt_or_eq.mp hk with hk | rfl
      · exact h k hk j
      · exact h' j (Finset.mem_univ j)
    · intro h
      exact ⟨fun k hk => h k (Nat.lt_succ_of_lt hk), bot_le, fun j _ => h K (Nat.lt_succ_self K) j⟩

/-- Of real scores the running maximum is real as soon as a chunk has been met. -/
theorem runMax_real (s : ℕ → Fin n → EReal) (hn : 0 < n) (K : ℕ) (hs : ∀ k < K + 1, ∀ j, ∃ r : ℝ, s k j = r) :
    ∃ r : ℝ, runMax s (K + 1) = r := by
  have top : runMax s (K + 1) ≠ ⊤ := by
    have h : ∀ M ≤ K + 1, runMax s M < ⊤ := by
      intro M
      induction M with
      | zero => intro _; exact bot_lt_top
      | succ M ih =>
        intro hM
        rw [runMax, max_lt_iff, Finset.fold_max_lt]
        refine ⟨ih (by omega), bot_lt_top, fun j _ => ?_⟩
        obtain ⟨r, hr⟩ := hs M (by omega) j
        rw [hr]; exact EReal.coe_lt_top r
    exact (h (K + 1) le_rfl).ne
  have bot : runMax s (K + 1) ≠ ⊥ := by
    intro h
    have := (runMax_le s ⊥ (K + 1)).mp h.le 0 (by omega) ⟨0, hn⟩
    obtain ⟨r, hr⟩ := hs 0 (by omega) ⟨0, hn⟩
    rw [hr] at this
    exact EReal.coe_ne_bot r (le_bot_iff.mp this)
  exact ⟨(runMax s (K + 1)).toReal, (EReal.coe_toReal top bot).symm⟩

/-- The running weighted sum is the weighted sum at the running maximum. -/
theorem runAcc_eq (s v : ℕ → Fin n → EReal) (hn : 0 < n) (K : ℕ) (hs : ∀ k < K, ∀ j, ∃ r : ℝ, s k j = r) :
    runAcc s v K = ∑ k ∈ Finset.range K, ∑ j, Ideal.exp (s k j - runMax s K) * v k j := by
  induction K with
  | zero => simp [runAcc]
  | succ K ih =>
    rw [runAcc, Finset.sum_range_succ]
    congr 1
    rw [ih fun k hk => hs k (Nat.lt_succ_of_lt hk)]
    obtain ⟨m', hm'⟩ := runMax_real s hn K hs
    cases K with
    | zero => simp
    | succ K =>
      obtain ⟨m, hm⟩ := runMax_real s hn K fun k hk => hs k (Nat.lt_succ_of_lt hk)
      rw [hm, hm', ← EReal.coe_sub, exp_real, mul_sum_real _ _ _ (Real.exp_pos _).le]
      refine Finset.sum_congr rfl fun k hk => ?_
      rw [mul_sum_real _ _ _ (Real.exp_pos _).le]
      refine Finset.sum_congr rfl fun j _ => ?_
      obtain ⟨r, hr⟩ := hs k (Nat.lt_succ_of_lt (Finset.mem_range.mp hk)) j
      rw [hr, mul_right_comm, ← exp_real, EReal.coe_sub, exp_move]

/-- A weighted sum divided by the sum of its weights is the sum weighted by the quotients, for real scores `s` and any
    values `v`: here the divisor is that running sum whose values are all one. -/
theorem quotient_eq {N : ℕ} (S V : Fin N → EReal) (hN : 0 < N) (M : ℝ) (hS : ∀ i, ∃ r : ℝ, S i = r) :
    Ideal.div (∑ i, Ideal.exp (S i - M) * V i) (∑ i, Ideal.exp (S i - M) * 1)
      = ∑ i, Ideal.div (Ideal.exp (S i - M)) (∑ i', Ideal.exp (S i' - M)) * V i := by
  choose r hr using hS
  have hl : (∑ i, Ideal.exp (S i - M)) = ((∑ i, Real.exp (r i - M) : ℝ) : EReal) := by
    rw [coe_sum]
    refine Finset.sum_congr rfl fun i _ => ?_
    rw [hr, ← EReal.coe_sub, exp_real]
  have hpos : 0 < ∑ i, Real.exp (r i - M) := by
    have : Nonempty (Fin N) := ⟨⟨0, hN⟩⟩
    exact Finset.sum_pos (fun i _ => Real.exp_pos _) Finset.univ_nonempty
  have hne : ((∑ i, Real.exp (r i - M) : ℝ) : EReal) ≠ 0 := by
    exact_mod_cast hpos.ne'
  simp only [mul_one, hl, Ideal.div, if_neg hne]
  rw [← EReal.coe_inv, mul_sum_real _ _ _ (inv_nonneg.mpr hpos.le)]
  exact Finset.sum_congr rfl fun i _ => mul_right_comm _ _ _

/-- Key `j` of chunk `k` among all 4096 keys, chunks of 512. -/
def pos (k : ℕ) (j : Fin 512) : Fin 4096 := ⟨(512 * k + j.val) % 4096, Nat.mod_lt _ (by decide)⟩

theorem pos_val (k : ℕ) (hk : k < 8) (j : Fin 512) : (pos k j).val = 512 * k + j.val :=
  Nat.mod_eq_of_lt (by have := j.isLt; omega)

/-- The values `V` weighted by the softmax of the scores `S`. -/
def weighted (S V : Fin 4096 → EReal) : EReal :=
  ∑ i, Ideal.div (Ideal.exp (S i - Finset.univ.fold max ⊥ S))
    (∑ i', Ideal.exp (S i' - Finset.univ.fold max ⊥ S)) * V i

/-- The maximum over the chunks is the maximum over the keys. -/
theorem runMax_pos (S : Fin 4096 → EReal) : runMax (fun k j => S (pos k j)) 8 = Finset.univ.fold max ⊥ S := by
  refine eq_of_forall_ge_iff fun c => ?_
  rw [runMax_le, Finset.fold_max_le]
  constructor
  · intro h
    refine ⟨bot_le, fun i _ => ?_⟩
    have e : pos (i.val / 512) ⟨i.val % 512, Nat.mod_lt _ (by decide)⟩ = i :=
      Fin.ext (by rw [pos_val _ (by have := i.isLt; omega)]; show 512 * (i.val / 512) + i.val % 512 = i.val; omega)
    have := h (i.val / 512) (by have := i.isLt; omega) ⟨i.val % 512, Nat.mod_lt _ (by decide)⟩
    rwa [e] at this
  · rintro ⟨-, h⟩ k _ j
    exact h _ (Finset.mem_univ _)

/-- A sum over the chunks is the sum over the keys. -/
theorem sum_pos (f : Fin 4096 → EReal) : ∑ k ∈ Finset.range 8, ∑ j, f (pos k j) = ∑ i, f i := by
  rw [Fin.sum_univ_tiles 8 512 (by decide) f, Finset.sum_range]
  refine Finset.sum_congr rfl fun k _ => Finset.sum_congr rfl fun j _ => congrArg f (Fin.ext ?_)
  rw [pos_val k.val k.isLt]
  show 512 * k.val + j.val = k.val * 512 + j.val
  omega

/-- The online softmax over eight chunks of real scores, divided by its running sum at values that are all one. -/
theorem online_eq (S V O : Fin 4096 → EReal) (hS : ∀ i, ∃ r : ℝ, S i = r) (hO : ∀ i, O i = 1) :
    Ideal.div (runAcc (fun k j => S (pos k j)) (fun k j => V (pos k j)) 8)
      (runAcc (fun k j => S (pos k j)) (fun k j => O (pos k j)) 8) = weighted S V := by
  obtain ⟨M, hM⟩ := runMax_real (fun k j => S (pos k j)) (by decide) 7 fun k _ j => hS _
  rw [runAcc_eq _ _ (by decide) 8 fun k _ j => hS _, runAcc_eq _ _ (by decide) 8 fun k _ j => hS _, runMax_pos]
  rw [show (7 + 1 : ℕ) = 8 from rfl, runMax_pos] at hM
  rw [sum_pos fun i => Ideal.exp (S i - Finset.univ.fold max ⊥ S) * V i,
    sum_pos fun i => Ideal.exp (S i - Finset.univ.fold max ⊥ S) * O i]
  simp only [hO]
  unfold weighted
  rw [hM]
  exact quotient_eq S V (by decide) M hS

/-- The pattern of minus infinity. -/
theorem ofBits_bot : Ideal.ofBits .f32 0xFF800000#32 = ⊥ := by
  simp [Ideal.ofBits, Ideal.ieee]

/-- The pattern of plus infinity. -/
theorem ofBits_top : Ideal.ofBits .f32 0x7F800000#32 = ⊤ := by
  simp [Ideal.ofBits, Ideal.ieee]

/-- The scale of the scores is a nonnegative real. -/
theorem scale_real : ∃ r : ℝ, 0 ≤ r ∧ Ideal.ofBits .f32 0x3DD105EC#32 = r := by
  refine ⟨_, ?_, by simp [Ideal.ofBits, Ideal.ieee]; rfl⟩
  positivity

end Cert.Softmax

end
-- ==== Proof.AttnBlock.lean ====
/-
  What one grid point of the attention kernel stores.
-/
module

public import proofs.«01_k».proof.Proof.Softmax
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax

variable (m : (ℓ : Loc nD τ sig) → Buf (Elt Ideal) ℓ)

/-- The score of query row `r` against key `i` of head `hh`, on the blocks. -/
def rowScore (hh : Fin 2) (q : Fin 128 → EReal) (K : FVec Ideal S1x2x4096x128 .bf16) (i : Fin 4096) : EReal :=
  ∑ d : Fin 128, q d * K (ix4 0 hh i d)

/-- The scores of query row `r` against chunk `k` of the keys of head `hh`. -/
def scores (hh : Fin 2) (q : FVec Ideal S1x1x512x128 .bf16) (K : FVec Ideal S1x2x4096x128 .bf16) (r : Fin 512) (k : ℕ) (j : Fin 512) : EReal :=
  rowScore hh (fun d => q (ix4 0 0 r d)) K (pos k j)

theorem pay4_apply (q : FVec Ideal S1x1x512x128 .bf16) (M : FVec Ideal S512x1 .f32) (k : FVec Ideal S1x1x512x128 .bf16) (r : Fin 512) :
    k0_pay4 (F := Ideal) q M k (ix2 r 0)
      = max (M (ix2 r 0)) (Finset.univ.fold max ⊥ fun j : Fin 512 => ∑ d : Fin 128, q (ix4 0 0 r d) * k (ix4 0 0 j d)) := by
  pointwise [k0_pay4, k0_pay3]
  rw [ofBits_bot]

theorem pay5_apply (q : FVec Ideal S1x1x512x128 .bf16) (M : FVec Ideal S512x1 .f32) (A : FVec Ideal S512x128 .f32)
    (k v : FVec Ideal S1x1x512x128 .bf16) (r : Fin 512) (l : Fin 128) :
    k0_pay5 (F := Ideal) q M A k v (ix2 r l)
      = A (ix2 r l) * Ideal.exp (M (ix2 r 0) - max (M (ix2 r 0)) (Finset.univ.fold max ⊥ fun j : Fin 512 => ∑ d : Fin 128, q (ix4 0 0 r d) * k (ix4 0 0 j d)))
        + ∑ j : Fin 512, Ideal.exp ((∑ d : Fin 128, q (ix4 0 0 r d) * k (ix4 0 0 j d))
            - max (M (ix2 r 0)) (Finset.univ.fold max ⊥ fun j : Fin 512 => ∑ d : Fin 128, q (ix4 0 0 r d) * k (ix4 0 0 j d)))
            * v (ix4 0 0 j l) := by
  pointwise [k0_pay5, k0_pay4, k0_pay3]
  rw [ofBits_bot]

theorem pay4_chunk (hh : Fin 2) (q : FVec Ideal S1x1x512x128 .bf16) (M : FVec Ideal S512x1 .f32) (k : FVec Ideal S1x1x512x128 .bf16)
    (K : FVec Ideal S1x2x4096x128 .bf16) (r : Fin 512) (n : ℕ)
    (hk : ∀ (j : Fin 512) (d : Fin 128), k (ix4 0 0 j d) = K (ix4 0 hh (pos n j) d)) :
    k0_pay4 (F := Ideal) q M k (ix2 r 0) = max (M (ix2 r 0)) (Finset.univ.fold max ⊥ (scores hh q K r n)) := by
  rw [pay4_apply]
  simp only [hk]
  rfl

theorem pay5_chunk (hh : Fin 2) (q : FVec Ideal S1x1x512x128 .bf16) (M : FVec Ideal S512x1 .f32) (A : FVec Ideal S512x128 .f32)
    (k v : FVec Ideal S1x1x512x128 .bf16) (K W : FVec Ideal S1x2x4096x128 .bf16) (r : Fin 512) (l : Fin 128) (n : ℕ)
    (hk : ∀ (j : Fin 512) (d : Fin 128), k (ix4 0 0 j d) = K (ix4 0 hh (pos n j) d))
    (hv : ∀ (j : Fin 512) (d : Fin 128), v (ix4 0 0 j d) = W (ix4 0 hh (pos n j) d)) :
    k0_pay5 (F := Ideal) q M A k v (ix2 r l)
      = A (ix2 r l) * Ideal.exp (M (ix2 r 0) - max (M (ix2 r 0)) (Finset.univ.fold max ⊥ (scores hh q K r n)))
        + ∑ j, Ideal.exp (scores hh q K r n j - max (M (ix2 r 0)) (Finset.univ.fold max ⊥ (scores hh q K r n)))
            * W (ix4 0 hh (pos n j) l) := by
  rw [pay5_apply]
  simp only [hk, hv]
  rfl

theorem trips1 : k0_t1_loop.trips = 8 := by decide +kernel
theorem trips2 : k0_t2_loop.trips = 8 := by decide +kernel

theorem ld1 (X : FVec Ideal S1x2x4096x128 .bf16) (k : Fin k0_t1_loop.trips) (hk : k.val < 8) (j : Fin 512) (d : Fin 128)
    (h : ∀ a, k0_off1 k a + ![1, 1, 512, 128] a ≤ S1x2x4096x128.size a) :
    X ((Rect.unit (s := S1x2x4096x128) (k0_off1 k) ![1, 1, 512, 128] h).idx (ix4 0 0 j d : S1x1x512x128.Idx)) = X (ix4 0 0 (pos k.val j) d) := by
  have e := k0_off1_eq k
  generalize k0_off1 k = o at e h
  subst e
  pointwise
  congr 2
  exact Fin.ext (pos_val k.val hk j).symm

theorem ld2 (X : FVec Ideal S1x2x4096x128 .bf16) (k : Fin k0_t2_loop.trips) (hk : k.val < 8) (j : Fin 512) (d : Fin 128)
    (h : ∀ a, k0_off2 k a + ![1, 1, 512, 128] a ≤ S1x2x4096x128.size a) :
    X ((Rect.unit (s := S1x2x4096x128) (k0_off2 k) ![1, 1, 512, 128] h).idx (ix4 0 0 j d : S1x1x512x128.Idx)) = X (ix4 0 1 (pos k.val j) d) := by
  have e := k0_off2_eq k
  generalize k0_off2 k = o at e h
  subst e
  pointwise
  congr 2
  exact Fin.ext (pos_val k.val hk j).symm

/-- One trip of the loop of head 0: the new maximum of every row. -/
theorem trip1_fst (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q : FVec Ideal S1x1x512x128 .bf16) (K W : FVec Ideal S1x2x4096x128 .bf16)
    (k : Fin k0_t1_loop.trips) (hk : k.val < 8) (acc : FVec Ideal S512x1 .f32 × FVec Ideal S512x128 .f32) (r : Fin 512) :
    (tripR_k0_t1 (F := Ideal) Variants.none c none i arg3 harg3 arg4 harg4 arg5 harg5 arg6 harg6 q (harg4.unread K) (harg5.unread W) k acc).1 (ix2 r 0)
      = max (acc.1 (ix2 r 0)) (Finset.univ.fold max ⊥ (scores 0 q K r k.val)) := by
  unfold tripR_k0_t1 trip_k0_t1
  dsimp only
  refine (congrFun (show k0_pay4 (F := Ideal) q acc.1 _ = k0_pay4 q acc.1 _ from rfl) _).trans ?_
  refine pay4_chunk 0 q acc.1 _ K r k.val fun j d => ?_
  simp only [View.readAt_eq_ld, harg4.read_unread]
  exact ld1 K k hk j d _

/-- One trip of the loop of head 0: the new weighted sums of every row. -/
theorem trip1_snd (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q : FVec Ideal S1x1x512x128 .bf16) (K W : FVec Ideal S1x2x4096x128 .bf16)
    (k : Fin k0_t1_loop.trips) (hk : k.val < 8) (acc : FVec Ideal S512x1 .f32 × FVec Ideal S512x128 .f32) (r : Fin 512) (l : Fin 128) :
    (tripR_k0_t1 (F := Ideal) Variants.none c none i arg3 harg3 arg4 harg4 arg5 harg5 arg6 harg6 q (harg4.unread K) (harg5.unread W) k acc).2 (ix2 r l)
      = acc.2 (ix2 r l) * Ideal.exp (acc.1 (ix2 r 0) - max (acc.1 (ix2 r 0)) (Finset.univ.fold max ⊥ (scores 0 q K r k.val)))
        + ∑ j, Ideal.exp (scores 0 q K r k.val j - max (acc.1 (ix2 r 0)) (Finset.univ.fold max ⊥ (scores 0 q K r k.val)))
            * W (ix4 0 0 (pos k.val j) l) := by
  unfold tripR_k0_t1 trip_k0_t1
  dsimp only
  refine (congrFun (show k0_pay5 (F := Ideal) q acc.1 acc.2 _ _ = k0_pay5 q acc.1 acc.2 _ _ from rfl) _).trans ?_
  refine pay5_chunk 0 q acc.1 acc.2 _ _ K W r l k.val (fun j d => ?_) fun j d => ?_
  · simp only [View.readAt_eq_ld, harg4.read_unread]
    exact ld1 K k hk j d _
  · simp only [View.readAt_eq_ld, harg5.read_unread]
    exact ld1 W k hk j d _

/-- The state of head 0's loop after `k` trips. -/
theorem loop1 (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q : FVec Ideal S1x1x512x128 .bf16) (K W : FVec Ideal S1x2x4096x128 .bf16)
    (r : Fin 512) (k : ℕ) (hk : k ≤ 8) :
    (st_k0_t1 (F := Ideal) Variants.none c none i arg3 harg3 arg4 harg4 arg5 harg5 arg6 harg6 q (harg4.unread K) (harg5.unread W) (k0_pay1, k0_pay2) k).1 (ix2 r 0)
        = runMax (scores 0 q K r) k
      ∧ ∀ l : Fin 128, (st_k0_t1 (F := Ideal) Variants.none c none i arg3 harg3 arg4 harg4 arg5 harg5 arg6 harg6 q (harg4.unread K) (harg5.unread W) (k0_pay1, k0_pay2) k).2 (ix2 r l)
        = runAcc (scores 0 q K r) (fun k j => W (ix4 0 0 (pos k j) l)) k := by
  induction k with
  | zero =>
    rw [st_k0_t1_zero]
    refine ⟨?_, fun l => ?_⟩
    · show Ideal.ofBits .f32 0xFF800000#32 = ⊥
      exact ofBits_bot
    · show Ideal.ofBits .f32 0x00000000#32 = 0
      exact Ideal.ofBits_zero_f32
  | succ k ih =>
    obtain ⟨h1, h2⟩ := ih (by omega)
    have e := st_k0_t1_succ (F := Ideal) Variants.none c none i arg3 harg3 arg4 harg4 arg5 harg5 arg6 harg6 q (harg4.unread K) (harg5.unread W) (k0_pay1, k0_pay2) ⟨k, by rw [trips1]; omega⟩
    rw [show ((⟨k, by rw [trips1]; omega⟩ : Fin k0_t1_loop.trips).val + 1) = k + 1 from rfl] at e
    rw [e]
    refine ⟨?_, fun l => ?_⟩
    · rw [trip1_fst _ _ _ _ _ _ _ _ _ _ _ _ _ _ (by show k < 8; omega)]
      rw [h1]; rfl
    · rw [trip1_snd _ _ _ _ _ _ _ _ _ _ _ _ _ _ (by show k < 8; omega)]
      rw [h1, h2 l]; rfl

/-- One trip of the loop of head 1: the new maximum of every row. -/
theorem trip2_fst (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q : FVec Ideal S1x1x512x128 .bf16) (K W : FVec Ideal S1x2x4096x128 .bf16)
    (k : Fin k0_t2_loop.trips) (hk : k.val < 8) (acc : FVec Ideal S512x1 .f32 × FVec Ideal S512x128 .f32) (r : Fin 512) :
    (tripR_k0_t2 (F := Ideal) Variants.none c none i arg3 harg3 arg4 harg4 arg5 harg5 arg6 harg6 q (harg4.unread K) (harg5.unread W) k acc).1 (ix2 r 0)
      = max (acc.1 (ix2 r 0)) (Finset.univ.fold max ⊥ (scores 1 q K r k.val)) := by
  unfold tripR_k0_t2 trip_k0_t2
  dsimp only
  refine (congrFun (show k0_pay9 (F := Ideal) q acc.1 _ = k0_pay4 q acc.1 _ from rfl) _).trans ?_
  refine pay4_chunk 1 q acc.1 _ K r k.val fun j d => ?_
  simp only [View.readAt_eq_ld, harg4.read_unread]
  exact ld2 K k hk j d _

/-- One trip of the loop of head 1: the new weighted sums of every row. -/
theorem trip2_snd (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q : FVec Ideal S1x1x512x128 .bf16) (K W : FVec Ideal S1x2x4096x128 .bf16)
    (k : Fin k0_t2_loop.trips) (hk : k.val < 8) (acc : FVec Ideal S512x1 .f32 × FVec Ideal S512x128 .f32) (r : Fin 512) (l : Fin 128) :
    (tripR_k0_t2 (F := Ideal) Variants.none c none i arg3 harg3 arg4 harg4 arg5 harg5 arg6 harg6 q (harg4.unread K) (harg5.unread W) k acc).2 (ix2 r l)
      = acc.2 (ix2 r l) * Ideal.exp (acc.1 (ix2 r 0) - max (acc.1 (ix2 r 0)) (Finset.univ.fold max ⊥ (scores 1 q K r k.val)))
        + ∑ j, Ideal.exp (scores 1 q K r k.val j - max (acc.1 (ix2 r 0)) (Finset.univ.fold max ⊥ (scores 1 q K r k.val)))
            * W (ix4 0 1 (pos k.val j) l) := by
  unfold tripR_k0_t2 trip_k0_t2
  dsimp only
  refine (congrFun (show k0_pay10 (F := Ideal) q acc.1 acc.2 _ _ = k0_pay5 q acc.1 acc.2 _ _ from rfl) _).trans ?_
  refine pay5_chunk 1 q acc.1 acc.2 _ _ K W r l k.val (fun j d => ?_) fun j d => ?_
  · simp only [View.readAt_eq_ld, harg4.read_unread]
    exact ld2 K k hk j d _
  · simp only [View.readAt_eq_ld, harg5.read_unread]
    exact ld2 W k hk j d _

/-- The state of head 1's loop after `k` trips. -/
theorem loop2 (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q : FVec Ideal S1x1x512x128 .bf16) (K W : FVec Ideal S1x2x4096x128 .bf16)
    (r : Fin 512) (k : ℕ) (hk : k ≤ 8) :
    (st_k0_t2 (F := Ideal) Variants.none c none i arg3 harg3 arg4 harg4 arg5 harg5 arg6 harg6 q (harg4.unread K) (harg5.unread W) (k0_pay1, k0_pay2) k).1 (ix2 r 0)
        = runMax (scores 1 q K r) k
      ∧ ∀ l : Fin 128, (st_k0_t2 (F := Ideal) Variants.none c none i arg3 harg3 arg4 harg4 arg5 harg5 arg6 harg6 q (harg4.unread K) (harg5.unread W) (k0_pay1, k0_pay2) k).2 (ix2 r l)
        = runAcc (scores 1 q K r) (fun k j => W (ix4 0 1 (pos k j) l)) k := by
  induction k with
  | zero =>
    rw [st_k0_t2_zero]
    refine ⟨?_, fun l => ?_⟩
    · show Ideal.ofBits .f32 0xFF800000#32 = ⊥
      exact ofBits_bot
    · show Ideal.ofBits .f32 0x00000000#32 = 0
      exact Ideal.ofBits_zero_f32
  | succ k ih =>
    obtain ⟨h1, h2⟩ := ih (by omega)
    have e := st_k0_t2_succ (F := Ideal) Variants.none c none i arg3 harg3 arg4 harg4 arg5 harg5 arg6 harg6 q (harg4.unread K) (harg5.unread W) (k0_pay1, k0_pay2) ⟨k, by rw [trips2]; omega⟩
    rw [show ((⟨k, by rw [trips2]; omega⟩ : Fin k0_t2_loop.trips).val + 1) = k + 1 from rfl] at e
    rw [e]
    refine ⟨?_, fun l => ?_⟩
    · rw [trip2_fst _ _ _ _ _ _ _ _ _ _ _ _ _ _ (by show k < 8; omega)]
      rw [h1]; rfl
    · rw [trip2_snd _ _ _ _ _ _ _ _ _ _ _ _ _ _ (by show k < 8; omega)]
      rw [h1, h2 l]; rfl

/-- Row `r` of the output block: the quotient of the weighted sum of head `hh` in its lane and the sum of its weights in
    lane 64, head 0 in lanes 0 … 63 and head 1 in lanes 64 … 127. -/
theorem pay11_apply (a b : FVec Ideal S512x128 .f32) (r : Fin 512) (l : Fin 128) :
    k0_pay11 (F := Ideal) a b (ix3 0 r l)
      = if l.val < 64 then Ideal.div (a (ix2 r l)) (a (ix2 r 64)) else Ideal.div (b (ix2 r ⟨l.val - 64, by omega⟩)) (b (ix2 r 64)) := by
  pointwise [k0_pay11]
  have hl := l.isLt
  by_cases h : l.val < 64
  · rw [if_pos h, WordCmp.cmpi_slt_ofNat (by omega) (by omega), Scalar.select, if_pos (by rw [decide_eq_true h]; rfl)]
  · rw [if_neg h, WordCmp.cmpi_slt_ofNat (by omega) (by omega), Scalar.select, if_neg (by rw [decide_eq_false h]; decide)]
    have e : (⟨(l.val + 128 - 64) % 128, Nat.mod_lt _ (by decide)⟩ : Fin 128) = ⟨l.val - 64, by omega⟩ :=
      Fin.ext (by show (l.val + 128 - 64) % 128 = l.val - 64; omega)
    exact congrArg (fun x => Ideal.div (b (ix2 r x)) (b (ix2 r 64))) e

/-- The softmax-weighted sum of the values of head `hh` in lane `l`, for the query row `q`, on the blocks. -/
def rowOut (hh : Fin 2) (q : Fin 128 → EReal) (K W : FVec Ideal S1x2x4096x128 .bf16) (l : Fin 128) : EReal :=
  weighted (rowScore hh q K) (fun i => W (ix4 0 hh i l))

/-- The quotient the body stores, over the rows `q0` and `q1` of the two heads. -/
theorem quotients (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (q0 q1 : FVec Ideal S1x1x512x128 .bf16) (X : FVec Ideal S1x2x512x128 .bf16) (K W : FVec Ideal S1x2x4096x128 .bf16)
    (h0 : ∀ (r : Fin 512) (d : Fin 128), q0 (ix4 0 0 r d) = X (ix4 0 0 r d)) (h1 : ∀ (r : Fin 512) (d : Fin 128), q1 (ix4 0 0 r d) = X (ix4 0 1 r d))
    (n : ℕ) (hn : n = 8) (r : Fin 512) (l : Fin 128)
    (hs : ∀ hh i, ∃ x : ℝ, rowScore hh (fun d => X (ix4 0 hh r d)) K i = x)
    (ho : ∀ (hh : Fin 2) (i : Fin 4096), W (ix4 0 hh i 64) = 1) :
    k0_pay11 (st_k0_t1 (F := Ideal) Variants.none c none i arg3 harg3 arg4 harg4 arg5 harg5 arg6 harg6 q0 (harg4.unread K) (harg5.unread W) (k0_pay1, k0_pay2) n).2
        (st_k0_t2 (F := Ideal) Variants.none c none i arg3 harg3 arg4 harg4 arg5 harg5 arg6 harg6 q1 (harg4.unread K) (harg5.unread W) (k0_pay6, k0_pay7) n).2 (ix3 0 r l)
      = if l.val < 64 then rowOut 0 (fun d => X (ix4 0 0 r d)) K W l
        else rowOut 1 (fun d => X (ix4 0 1 r d)) K W ⟨l.val - 64, by omega⟩ := by
  subst hn
  rw [show (k0_pay6 (F := Ideal)) = k0_pay1 from rfl, show (k0_pay7 (F := Ideal)) = k0_pay2 from rfl]
  rw [pay11_apply]
  have s0 : scores 0 q0 K r = fun k j => rowScore 0 (fun d => X (ix4 0 0 r d)) K (pos k j) := by
    funext k j
    simp only [scores, h0]
  have s1 : scores 1 q1 K r = fun k j => rowScore 1 (fun d => X (ix4 0 1 r d)) K (pos k j) := by
    funext k j
    simp only [scores, h1]
  split
  · rw [(loop1 c i arg3 harg3 arg4 harg4 arg5 harg5 arg6 harg6 q0 K W r 8 le_rfl).2 l, (loop1 c i arg3 harg3 arg4 harg4 arg5 harg5 arg6 harg6 q0 K W r 8 le_rfl).2 64, s0]
    exact online_eq _ (fun i => W (ix4 0 0 i l)) (fun i => W (ix4 0 0 i 64)) (hs 0) (ho 0)
  · rw [(loop2 c i arg3 harg3 arg4 harg4 arg5 harg5 arg6 harg6 q1 K W r 8 le_rfl).2 ⟨l.val - 64, by omega⟩, (loop2 c i arg3 harg3 arg4 harg4 arg5 harg5 arg6 harg6 q1 K W r 8 le_rfl).2 64, s1]
    exact online_eq _ (fun i => W (ix4 0 1 i ⟨l.val - 64, by omega⟩)) (fun i => W (ix4 0 1 i 64)) (hs 1) (ho 1)

/-- What the body leaves in the output block, where the scores are real and the values carry ones in lane 64. -/
theorem out_apply (c : Dev nD) (i : grid0.Coords) (arg3 : Memref sig .tc .vmem S1x2x512x128 .bf16) (harg3 : arg3.IsWhole)
    (arg4 : Memref sig .tc .vmem S1x2x4096x128 .bf16) (harg4 : arg4.IsWhole) (arg5 : Memref sig .tc .vmem S1x2x4096x128 .bf16)
    (harg5 : arg5.IsWhole) (arg6 : Memref sig .tc .vmem S1x512x128 .bf16) (harg6 : arg6.IsWhole)
    (X : FVec Ideal S1x2x512x128 .bf16) (K W : FVec Ideal S1x2x4096x128 .bf16) (r : Fin 512) (l : Fin 128)
    (hs : ∀ hh i, ∃ x : ℝ, rowScore hh (fun d => X (ix4 0 hh r d)) K i = x)
    (ho : ∀ (hh : Fin 2) (i : Fin 4096), W (ix4 0 hh i 64) = 1) :
    out0_A_3 (F := Ideal) c i arg3 harg3 arg4 harg4 arg5 harg5 arg6 harg6 X K W (ix3 0 r l)
      = if l.val < 64 then rowOut 0 (fun d => X (ix4 0 0 r d)) K W l
        else rowOut 1 (fun d => X (ix4 0 1 r d)) K W ⟨l.val - 64, by omega⟩ := by
  frame_out
  refine quotients c i arg3 harg3 arg4 harg4 arg5 harg5 arg6 harg6 _ _ X K W ?_ ?_ _ (by decide +kernel) r l hs ho
  · intro r d
    pointwise
  · intro r d
    pointwise

end Cert.KernelIdeal.Attn

end
-- ==== Proof.AttnRead.lean ====
/-
  What the attention kernel's windows carry, in terms of the arguments.
-/
module

public import proofs.«01_k».proof.Proof.Softmax
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax

variable (m : (ℓ : Loc nD τ sig) → Buf (Elt Ideal) ℓ)

/-- The queries as the first window finds them. -/
def QOP (n : FVec Ideal S16x4096x8x64 .f32) (r : FVec Ideal S16x4096x8x32 .f32) : FVec Ideal S16x8x4096x128 .bf16 :=
  transpose S16x8x4096x128 [0, 2, 1, 3] (truncf (F := Ideal) .bf16 (mulf (concatenate S16x4096x8x128 3 [⟨S16x4096x8x64, n⟩, ⟨S16x4096x8x32, r⟩, ⟨S16x4096x8x32, broadcastInDim S16x4096x8x32 ![] bcast_S_S16x4096x8x32 (constant (F := Ideal) S_ .f32 0x00000000#32)⟩] concatenates_S16x4096x8x64_S16x4096x8x32_S16x4096x8x32_S16x4096x8x128_d3) (broadcastInDim S16x4096x8x128 ![] bcast_S_S16x4096x8x128 (constant (F := Ideal) S_ .f32 0x3DD105EC#32))) bitsLt_bf16_f32) transposes_S16x4096x8x128_S16x8x4096x128_0_2_1_3

/-- The keys as the second window finds them. -/
def KOP (n : FVec Ideal S16x4096x8x64 .f32) (r : FVec Ideal S16x4096x32 .f32) : FVec Ideal S16x8x4096x128 .bf16 :=
  transpose S16x8x4096x128 [0, 2, 1, 3] (truncf (F := Ideal) .bf16 (concatenate S16x4096x8x128 3 [⟨S16x4096x8x64, n⟩, ⟨S16x4096x8x32, broadcastInDim S16x4096x8x32 ![0, 1, 2, 3] bcast_S16x4096x1x32_S16x4096x8x32_0_1_2_3 (broadcastInDim S16x4096x1x32 ![0, 1, 3] bcast_S16x4096x32_S16x4096x1x32_0_1_3 r)⟩, ⟨S16x4096x8x32, broadcastInDim S16x4096x8x32 ![] bcast_S_S16x4096x8x32 (constant (F := Ideal) S_ .f32 0x00000000#32)⟩] concatenates_S16x4096x8x64_S16x4096x8x32_S16x4096x8x32_S16x4096x8x128_d3) bitsLt_bf16_f32) transposes_S16x4096x8x128_S16x8x4096x128_0_2_1_3

/-- The values as the third window finds them, with ones behind. -/
def VOP (v : FVec Ideal S16x4096x8x64 .f32) : FVec Ideal S16x8x4096x128 .bf16 :=
  transpose S16x8x4096x128 [0, 2, 1, 3] (truncf (F := Ideal) .bf16 (concatenate S16x4096x8x128 3 [⟨S16x4096x8x64, v⟩, ⟨S16x4096x8x64, broadcastInDim S16x4096x8x64 ![] bcast_S_S16x4096x8x64 (constant (F := Ideal) S_ .f32 0x3F800000#32)⟩] concatenates_S16x4096x8x64_S16x4096x8x64_S16x4096x8x128_d3) bitsLt_bf16_f32) transposes_S16x4096x8x128_S16x8x4096x128_0_2_1_3

set_option maxHeartbeats 1600000 in
theorem q_entry (c : Dev nD) : V m c main_v12 = QOP (m (c, Proc.tc.devRef main_arg0)) (m (c, Proc.tc.devRef main_arg1)) := by
  unfold QOP
  after_results <;> rfl

set_option maxHeartbeats 1600000 in
theorem k_entry (c : Dev nD) : V m c main_v13 = KOP (m (c, Proc.tc.devRef main_arg2)) (m (c, Proc.tc.devRef main_arg3)) := by
  unfold KOP
  after_results <;> rfl

set_option maxHeartbeats 1600000 in
theorem v_entry (c : Dev nD) : V m c main_v14 = VOP (m (c, Proc.tc.devRef main_arg4)) := by
  unfold VOP
  after_results <;> rfl

/-- A score of the kernel is the sum of the two parts, scaled. -/
theorem score_read (qn : FVec Ideal S16x4096x8x64 .f32) (qr : FVec Ideal S16x4096x8x32 .f32) (kn : FVec Ideal S16x4096x8x64 .f32)
    (kr : FVec Ideal S16x4096x32 .f32) (b : Fin 16) (h : Fin 8) (s i : Fin 4096) :
    ∑ d : Fin 128, QOP qn qr (ix4 b h s d) * KOP kn kr (ix4 b h i d)
      = ((∑ d : Fin 64, qn (ix4 b s h d) * kn (ix4 b i h d)) + ∑ e : Fin 32, kr (ix3 b i e) * qr (ix4 b s h e)) * Ideal.ofBits .f32 0x3DD105EC#32 := by
  pointwise [QOP, KOP, sumSplitAll]
  obtain ⟨r, hr, e⟩ := scale_real
  rw [e]
  have z : ∑ x : Fin 32, (0 : EReal) * (r : EReal) * 0 = 0 := by simp
  have n0 : ∀ a b : EReal, (a + b) * (r : EReal) = a * r + b * r := fun a b => by
    have := mul_sum_real Finset.univ ![a, b] r hr
    simpa using this
  rw [z, add_zero, n0, mul_sum_real _ _ _ hr, mul_sum_real _ _ _ hr]
  refine congrArg₂ (· + ·) (Finset.sum_congr rfl fun d _ => mul_right_comm _ _ _) (Finset.sum_congr rfl fun d _ => ?_)
  rw [mul_right_comm, mul_comm (qr _)]

theorem v_read (v : FVec Ideal S16x4096x8x64 .f32) (b : Fin 16) (h : Fin 8) (s : Fin 4096) (e : Fin 64) :
    VOP v (ix4 b h s ⟨e.val, by omega⟩) = v (ix4 b s h e) := by
  pointwise [VOP]

theorem one_read (v : FVec Ideal S16x4096x8x64 .f32) (b : Fin 16) (h : Fin 8) (s : Fin 4096) :
    VOP v (ix4 b h s 64) = 1 := by
  pointwise [VOP]

theorem idx0 : ∀ t : Fin cfg0.N, win0_0.index t = ![t.val / 32, t.val / 8 % 4, t.val % 8, 0] :=
  (by decide +kernel : ∀ t : Fin grid0.N, win0_0.index t = ![t.val / 32, t.val / 8 % 4, t.val % 8, 0])
theorem idx1 : ∀ t : Fin cfg0.N, win0_1.index t = ![t.val / 32, t.val / 8 % 4, 0, 0] :=
  (by decide +kernel : ∀ t : Fin grid0.N, win0_1.index t = ![t.val / 32, t.val / 8 % 4, 0, 0])
theorem idx2 : ∀ t : Fin cfg0.N, win0_2.index t = ![t.val / 32, t.val / 8 % 4, 0, 0] :=
  (by decide +kernel : ∀ t : Fin grid0.N, win0_2.index t = ![t.val / 32, t.val / 8 % 4, 0, 0])
theorem idx3 : ∀ t : Fin cfg0.N, win0_3.index t = ![t.val / 32, t.val % 8, t.val / 8 % 4] :=
  (by decide +kernel : ∀ t : Fin grid0.N, win0_3.index t = ![t.val / 32, t.val % 8, t.val / 8 % 4])

end Cert.KernelIdeal.Attn

end
-- ==== Proof.AttnRef.lean ====
/-
  The reference's attention at an index.
-/
module

public import proofs.«01_k».proof.Proof.Softmax
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Softmax

variable (qn : FVec Ideal S16x4096x8x64 .f32) (qr : FVec Ideal S16x4096x8x32 .f32) (kn : FVec Ideal S16x4096x8x64 .f32)
  (kr : FVec Ideal S16x4096x32 .f32) (v : FVec Ideal S16x4096x8x64 .f32)

/-- The reference's scores. -/
def SC : FVec Ideal S16x8x4096x4096 .f32 :=
  mulf (addf (Host.dotGeneral dot_S16x4096x8x64_S16x4096x8x64_S16x8x4096x4096_3_3_1_1_02_02 none qn kn) (transpose S16x8x4096x4096 [0, 3, 2, 1] (Host.dotGeneral dot_S16x4096x32_S16x4096x8x32_S16x4096x4096x8_2_3_1_12_0_0 none kr qr) transposes_S16x4096x4096x8_S16x8x4096x4096_0_3_2_1)) (broadcastInDim S16x8x4096x4096 ![] bcast_S_S16x8x4096x4096 (constant S_ .f32 0x3DD105EC#32))

/-- The largest scores. -/
def MX (S : FVec Ideal S16x8x4096x4096 .f32) : FVec Ideal S16x8x4096x4096 .f32 :=
  broadcastInDim S16x8x4096x4096 ![0, 1, 2, 3] bcast_S16x8x4096x1_S16x8x4096x4096_0_1_2_3 (broadcastInDim S16x8x4096x1 ![0, 1, 2] bcast_S16x8x4096_S16x8x4096x1_0_1_2 (maximumf (broadcastInDim S16x8x4096 ![] bcast_S_S16x8x4096 (constant S_ .f32 0xFF800000#32)) (Host.reduce FloatOps.maximumf S (constant S_ .f32 0xFF800000#32) reducesTo_S16x8x4096x4096_S16x8x4096_d3 h_S_)))

/-- The sums over a row. -/
def SM (P : FVec Ideal S16x8x4096x4096 .f32) : FVec Ideal S16x8x4096x4096 .f32 :=
  broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd P (constant S_ .f32 0x00000000#32) reducesTo_S16x8x4096x4096_S16x8x4096_d3 h_S_))

/-- The values weighted by `W`. -/
def AV (W : FVec Ideal S16x8x4096x4096 .f32) : FVec Ideal S16x4096x512 .bf16 :=
  truncf .bf16 (shapeCast _ (transpose S16x4096x8x64 [0, 3, 1, 2] (Host.dotGeneral dot_S16x4096x8x64_S16x8x4096x4096_S16x8x64x4096_1_3_3_2_02_01 none v W) transposes_S16x8x64x4096_S16x4096x8x64_0_3_1_2) shapeCasts_S16x4096x8x64_S16x4096x512) bitsLt_bf16_f32

theorem sc_apply (b : Fin 16) (h : Fin 8) (s i : Fin 4096) :
    SC qn qr kn kr (ix4 b h s i) = ((∑ d : Fin 64, qn (ix4 b s h d) * kn (ix4 b i h d)) + ∑ e : Fin 32, kr (ix3 b i e) * qr (ix4 b s h e))
      * Ideal.ofBits .f32 0x3DD105EC#32 := by
  pointwise [SC]

/-- A host maximum over the last of four axes, from minus infinity. -/
theorem host_max {n0 n1 n2 n3 : ℕ} (S : FVec Ideal ⟨4, ![n0, n1, n2, n3]⟩ .f32) (c : FVec Ideal S_ .f32) (hc : ∀ i, c i = ⊥)
    (h : (⟨4, ![n0, n1, n2, n3]⟩ : Shape).ReducesTo [3] ⟨3, ![n0, n1, n2]⟩) (hu : 0 < S_.numel) (a : Fin n0) (b : Fin n1) (d : Fin n2) :
    Host.reduce FloatOps.maximumf S c h hu (ix3 a b d) = Finset.univ.fold max ⊥ fun k => S (ix4 a b d k) := by
  rw [Host.reduce_eq_fold, hc]
  exact Shape.ReducesTo.fold_fiber_r4_a3 h (ix3 a b d) _ _ _

theorem over_keys (R : FVec Ideal S16x8x4096 .f32) (b : Fin 16) (h : Fin 8) (s i : Fin 4096) :
    broadcastInDim S16x8x4096x4096 ![0, 1, 2, 3] bcast_S16x8x4096x1_S16x8x4096x4096_0_1_2_3 (broadcastInDim S16x8x4096x1 ![0, 1, 2] bcast_S16x8x4096_S16x8x4096x1_0_1_2 (maximumf (broadcastInDim S16x8x4096 ![] bcast_S_S16x8x4096 (constant (F := Ideal) S_ .f32 0xFF800000#32)) R)) (ix4 b h s i)
      = R (ix3 b h s) := by
  pointwise
  rw [ofBits_bot, max_eq_right bot_le]

theorem mx_apply (S : FVec Ideal S16x8x4096x4096 .f32) (b : Fin 16) (h : Fin 8) (s i : Fin 4096) :
    MX S (ix4 b h s i) = Finset.univ.fold max ⊥ fun i' => S (ix4 b h s i') := by
  refine (over_keys _ b h s i).trans ?_
  exact host_max S _ (fun _ => ofBits_bot) _ _ b h s

theorem sm_apply (S : FVec Ideal S16x8x4096x4096 .f32) (b : Fin 16) (h : Fin 8) (s i : Fin 4096) :
    SM S (ix4 b h s i) = ∑ i', S (ix4 b h s i') := by
  pointwise [SM]

theorem av_apply (W : FVec Ideal S16x8x4096x4096 .f32) (b : Fin 16) (s : Fin 4096) (l : Fin 512) :
    AV v W (ix3 b s l) = ∑ i : Fin 4096, v (ix4 b i ⟨l.val / 64, by omega⟩ ⟨l.val % 64, by omega⟩) * W (ix4 b ⟨l.val / 64, by omega⟩ s i) := by
  pointwise [AV]

/-- The reference's attention over its scores. -/
def ATT (S : FVec Ideal S16x8x4096x4096 .f32) : FVec Ideal S16x4096x512 .bf16 :=
  AV v (Host.divf (Host.exp (subf S (MX S))) (SM (Host.exp (subf S (MX S)))))

theorem att_apply (S : FVec Ideal S16x8x4096x4096 .f32) (b : Fin 16) (s : Fin 4096) (l : Fin 512) :
    ATT v S (ix3 b s l) = weighted (fun i => S (ix4 b ⟨l.val / 64, by omega⟩ s i)) (fun i => v (ix4 b i ⟨l.val / 64, by omega⟩ ⟨l.val % 64, by omega⟩)) := by
  unfold ATT weighted
  rw [av_apply]
  refine Finset.sum_congr rfl fun i _ => ?_
  rw [mul_comm]
  refine congrArg (· * _) ?_
  show Ideal.div (Ideal.exp (S _ - MX S _)) (SM _ _) = _
  rw [sm_apply, mx_apply]
  refine congrArg _ (Finset.sum_congr rfl fun i' _ => ?_)
  show Ideal.exp (S _ - MX S _) = _
  rw [mx_apply]

end Cert.ReferenceIdeal.Attn

end
-- ==== Proof.AttnFinal.lean ====
/-
  The attention kernel's result is the reference's.
-/
module

public import proofs.«01_k».proof.Proof.AttnBlock
public import proofs.«01_k».proof.Proof.AttnRead
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax

variable (m : (ℓ : Loc nD τ sig) → Buf (Elt Ideal) ℓ)

theorem lt512 (t : Fin cfg0.N) : t.val < 512 := lt_of_lt_of_eq t.isLt (by decide)

theorem q_block (c : Dev nD) (t : Fin cfg0.N) (hh : Fin 2) (r : Fin 512) (d : Fin 128) :
    (iblk m c 0 t : FVec Ideal S1x2x512x128 .bf16) (ix4 0 hh r d)
      = (V m c main_v12 : FVec Ideal S16x8x4096x128 .bf16) (ix4 ⟨t.val / 32, by have := lt512 t; omega⟩ ⟨t.val / 8 % 4 * 2 + hh.val, by omega⟩ ⟨t.val % 8 * 512 + r.val, by omega⟩ d) := by
  have hN := lt512 t
  blk_ext [iblk, idx0 t]

theorem k_block (c : Dev nD) (t : Fin cfg0.N) (hh : Fin 2) (r : Fin 4096) (d : Fin 128) :
    (iblk m c 1 t : FVec Ideal S1x2x4096x128 .bf16) (ix4 0 hh r d)
      = (V m c main_v13 : FVec Ideal S16x8x4096x128 .bf16) (ix4 ⟨t.val / 32, by have := lt512 t; omega⟩ ⟨t.val / 8 % 4 * 2 + hh.val, by omega⟩ r d) := by
  have hN := lt512 t
  blk_ext [iblk, idx1 t]

theorem v_block (c : Dev nD) (t : Fin cfg0.N) (hh : Fin 2) (r : Fin 4096) (d : Fin 128) :
    (iblk m c 2 t : FVec Ideal S1x2x4096x128 .bf16) (ix4 0 hh r d)
      = (V m c main_v14 : FVec Ideal S16x8x4096x128 .bf16) (ix4 ⟨t.val / 32, by have := lt512 t; omega⟩ ⟨t.val / 8 % 4 * 2 + hh.val, by omega⟩ r d) := by
  have hN := lt512 t
  blk_ext [iblk, idx2 t]

theorem out_emb (t : Fin cfg0.N) (r : Fin 512) (l : Fin 128) :
    ((win0_3.blk t).view.emb (ix3 0 r l : S1x512x128.Idx) : S16x4096x512.Idx)
      = ix3 ⟨t.val / 32, by have := lt512 t; omega⟩ ⟨t.val % 8 * 512 + r.val, by omega⟩ ⟨t.val / 8 % 4 * 128 + l.val, by omega⟩ := by
  have hN := lt512 t
  blk_ext [idx3 t]

/-- The reference's scores over the kernel's arguments. -/
abbrev SCm (c : Dev nD) : FVec Ideal Cert.ReferenceIdeal.S16x8x4096x4096 .f32 :=
  Cert.ReferenceIdeal.Attn.SC (m (c, Proc.tc.devRef main_arg0)) (m (c, Proc.tc.devRef main_arg1)) (m (c, Proc.tc.devRef main_arg2)) (m (c, Proc.tc.devRef main_arg3))

/-- A score on the blocks is the reference's. -/
theorem rowScore_block (c : Dev nD) (t : Fin cfg0.N) (hh : Fin 2) (r : Fin 512) (i : Fin 4096) :
    rowScore hh (fun d => (iblk m c 0 t : FVec Ideal S1x2x512x128 .bf16) (ix4 0 hh r d)) (iblk m c 1 t) i
      = SCm m c (ix4 ⟨t.val / 32, by have := lt512 t; omega⟩ ⟨t.val / 8 % 4 * 2 + hh.val, by omega⟩ ⟨t.val % 8 * 512 + r.val, by omega⟩ i) := by
  unfold rowScore
  refine Eq.trans ?_ ((score_read (m (c, Proc.tc.devRef main_arg0)) (m (c, Proc.tc.devRef main_arg1)) (m (c, Proc.tc.devRef main_arg2)) (m (c, Proc.tc.devRef main_arg3)) _ _ _ i).trans
    (Cert.ReferenceIdeal.Attn.sc_apply _ _ _ _ _ _ _ _).symm)
  refine Finset.sum_congr rfl fun d _ => Ideal.mul_congr ?_ ?_
  · exact (q_block m c t hh r d).trans (congrFun (q_entry m c) _)
  · exact (k_block m c t hh i d).trans (congrFun (k_entry m c) _)

/-- A value on the blocks is the argument's. -/
theorem value_block (c : Dev nD) (t : Fin cfg0.N) (hh : Fin 2) (i : Fin 4096) (e : Fin 64) :
    (iblk m c 2 t : FVec Ideal S1x2x4096x128 .bf16) (ix4 0 hh i ⟨e.val, by omega⟩)
      = (m (c, Proc.tc.devRef main_arg4) : FVec Ideal S16x4096x8x64 .f32) (ix4 ⟨t.val / 32, by have := lt512 t; omega⟩ i ⟨t.val / 8 % 4 * 2 + hh.val, by omega⟩ e) :=
  (v_block m c t hh i _).trans ((congrFun (v_entry m c) _).trans (v_read _ _ _ _ e))

theorem ones_block (c : Dev nD) (t : Fin cfg0.N) (hh : Fin 2) (i : Fin 4096) :
    (iblk m c 2 t : FVec Ideal S1x2x4096x128 .bf16) (ix4 0 hh i 64) = (1 : EReal) :=
  (v_block m c t hh i _).trans ((congrFun (v_entry m c) _).trans (one_read _ _ _ _))

/-- A head's row on the blocks is the reference's, at the coordinates the row sits at. -/
theorem rowOut_block (c : Dev nD) (t : Fin cfg0.N) (hh : Fin 2) (r : Fin 512) (e : Fin 64) (L : Fin 512)
    (hL : L.val = (t.val / 8 % 4 * 2 + hh.val) * 64 + e.val) :
    rowOut hh (fun d => (iblk m c 0 t : FVec Ideal S1x2x512x128 .bf16) (ix4 0 hh r d)) (iblk m c 1 t) (iblk m c 2 t) ⟨e.val, by omega⟩
      = Cert.ReferenceIdeal.Attn.ATT (m (c, Proc.tc.devRef main_arg4)) (SCm m c)
          (ix3 ⟨t.val / 32, by have := lt512 t; omega⟩ ⟨t.val % 8 * 512 + r.val, by omega⟩ L) := by
  refine Eq.trans ?_ (Cert.ReferenceIdeal.Attn.att_apply _ _ _ _ L).symm
  have h1 : (⟨L.val / 64, by omega⟩ : Fin 8) = ⟨t.val / 8 % 4 * 2 + hh.val, by omega⟩ := Fin.ext (by show L.val / 64 = t.val / 8 % 4 * 2 + hh.val; omega)
  have h2 : (⟨L.val % 64, by omega⟩ : Fin 64) = e := Fin.ext (by show L.val % 64 = e.val; omega)
  rw [h1, h2]
  unfold rowOut
  exact congrArg₂ weighted (funext fun i => rowScore_block m c t hh r i) (funext fun i => value_block m c t hh i e)

/-- The kernel's result is the reference's, where the scores are real. -/
theorem final (c : Dev nD) (hS : ∀ i, ∃ x : ℝ, SCm m c i = x) :
    (dats m 0 c).arrAt 3 cfg0.N = Cert.ReferenceIdeal.Attn.ATT (m (c, Proc.tc.devRef main_arg4)) (SCm m c) := by
  refine (dats m 0 c).arrAt_eq_of_covers 3 _ (by decide +kernel) fun t _ y => ?_
  blk_simp [idx3 t]
  rw [after0_3]
  unfold outsAt0
  obtain ⟨r, l, rfl⟩ : ∃ (r : Fin 512) (l : Fin 128), y = (ix3 0 r l : S1x512x128.Idx) :=
    ⟨y 1, y 2, (eq_ix3 (n0 := 1) (n1 := 512) (n2 := 128) y).trans (congrArg (fun a : Fin 1 => (ix3 a (y 1) (y 2) : S1x512x128.Idx)) (Subsingleton.elim _ _))⟩
  refine (out_apply c _ _ _ _ _ _ _ _ _ _ _ _ r l ?_ ?_).trans (Eq.trans ?_ (congrArg _ (out_emb t r l)).symm)
  · intro hh i
    obtain ⟨x, hx⟩ := hS (ix4 ⟨t.val / 32, by have := lt512 t; omega⟩ ⟨t.val / 8 % 4 * 2 + hh.val, by omega⟩ ⟨t.val % 8 * 512 + r.val, by omega⟩ i)
    exact ⟨x, (rowScore_block m c t hh r i).trans hx⟩
  · exact fun hh i => ones_block m c t hh i
  · have hl := l.isLt
    split
    · rename_i h
      exact rowOut_block m c t 0 r ⟨l.val, h⟩ _ (by show t.val / 8 % 4 * 128 + l.val = (t.val / 8 % 4 * 2 + 0) * 64 + l.val; omega)
    · rename_i h
      exact rowOut_block m c t 1 r ⟨l.val - 64, by omega⟩ _ (by show t.val / 8 % 4 * 128 + l.val = (t.val / 8 % 4 * 2 + 1) * 64 + (l.val - 64); omega)

end Cert.KernelIdeal.Attn

end
-- ==== Proof.AttnFinite.lean ====
/-
  Finite queries and keys have real scores.
-/
module

public import proofs.«01_k».proof.Pre_finite_scores
public import proofs.«01_k».proof.Proof.Softmax
public import proofs.«01_k».proof.Proof.AttnRef
public import Idealize.ShloMosaic.Lib.Pointwise

@[expose] public section

set_option maxRecDepth 16384

noncomputable section

open Idealize.ShloMosaic Idealize.SL.Sem

namespace Cert.Pre_finite_scores

open Cert.Softmax

/-- The precondition's broadcasts are of a scalar. -/
theorem facts : Facts where
  bcast_S_S16x4096x8x64 := by decide
  bcast_S_S16x4096x8x32 := by decide
  bcast_S_S16x4096x32 := by decide

/-- A number whose absolute value lies below infinity is real. -/
theorem real_of_abs_lt (x : EReal) (h : Ideal.cmp .olt (max x (-x)) (Ideal.ofBits .f32 0x7F800000#32) = 1#1) : ∃ r : ℝ, x = r := by
  rw [ofBits_top] at h
  have h' : max x (-x) < ⊤ := by
    by_contra hn
    rw [Ideal.cmp, decide_eq_false hn] at h
    exact absurd h (by decide)
  obtain ⟨h1, h2⟩ := max_lt_iff.mp h'
  refine ⟨x.toReal, (EReal.coe_toReal h1.ne ?_).symm⟩
  rintro rfl
  simp at h2

/-- Sums of products of real numbers are real. -/
theorem sum_real {ι : Type*} (S : Finset ι) (f g : ι → EReal) (hf : ∀ i, ∃ r : ℝ, f i = r) (hg : ∀ i, ∃ r : ℝ, g i = r) :
    ∃ r : ℝ, ∑ i ∈ S, f i * g i = r := by
  choose a ha using hf
  choose b hb using hg
  refine ⟨∑ i ∈ S, a i * b i, ?_⟩
  refine Eq.trans ?_ (coe_sum S fun i => a i * b i).symm
  exact Finset.sum_congr rfl fun i _ => by rw [ha, hb, EReal.coe_mul]

variable (qn : FVec Ideal S16x4096x8x64 .f32) (qr : FVec Ideal S16x4096x8x32 .f32) (kn : FVec Ideal S16x4096x8x64 .f32)
  (kr : FVec Ideal S16x4096x32 .f32) (v : FVec Ideal S16x4096x8x64 .f32)

/-- Under the precondition every score is real. -/
theorem scores_real (h0 : (@fn facts Ideal _ qn qr kn kr v).1 = fun _ => 1#1) (h1 : (@fn facts Ideal _ qn qr kn kr v).2.1 = fun _ => 1#1)
    (h2 : (@fn facts Ideal _ qn qr kn kr v).2.2.1 = fun _ => 1#1) (h3 : (@fn facts Ideal _ qn qr kn kr v).2.2.2 = fun _ => 1#1)
    (i : Cert.ReferenceIdeal.S16x8x4096x4096.Idx) : ∃ x : ℝ, Cert.ReferenceIdeal.Attn.SC qn qr kn kr i = x := by
  have e0 : ∀ i, ∃ r : ℝ, qn i = r := fun i => real_of_abs_lt _ (congrFun h0 i)
  have e1 : ∀ i, ∃ r : ℝ, qr i = r := fun i => real_of_abs_lt _ (congrFun h1 i)
  have e2 : ∀ i, ∃ r : ℝ, kn i = r := fun i => real_of_abs_lt _ (congrFun h2 i)
  have e3 : ∀ i, ∃ r : ℝ, kr i = r := fun i => real_of_abs_lt _ (congrFun h3 i)
  obtain ⟨b, h, s, j, rfl⟩ : ∃ (b : Fin 16) (h : Fin 8) (s j : Fin 4096), i = ix4 b h s j := ⟨i 0, i 1, i 2, i 3, eq_ix4 i⟩
  obtain ⟨x, hx⟩ := sum_real (Finset.univ : Finset (Fin 64)) (fun d => qn (ix4 b s h d)) (fun d => kn (ix4 b j h d)) (fun _ => e0 _) (fun _ => e2 _)
  obtain ⟨y, hy⟩ := sum_real (Finset.univ : Finset (Fin 32)) (fun e => kr (ix3 b j e)) (fun e => qr (ix4 b s h e)) (fun _ => e3 _) (fun _ => e1 _)
  obtain ⟨r, -, hr⟩ := scale_real
  refine ⟨(x + y) * r, ?_⟩
  rw [Cert.ReferenceIdeal.Attn.sc_apply, hr, EReal.coe_mul, EReal.coe_add, ← hx, ← hy]

end Cert.Pre_finite_scores

end
-- ==== Proof.MoeBody.lean ====
/- One grid step of the experts' kernel: what it leaves in the accumulator and in the output's buffer, and that
   it leaves it. -/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The step is the token tile's first: its expert is number 0. -/
def Opens (i : grid0.Coords) : Prop :=
  Scalar.cmpi .ne (Scalar.extui (Scalar.cmpi .eq (BitVec.ofNat 32 (i 1).val) 0#32) : BitVec 32) 0#32 = 1#1

/-- Some token of the tile has a positive gate for the step's expert. -/
def Routed (i : grid0.Coords) (gates : Vec F S1024x16 .f32) : Prop :=
  Scalar.cmpi .ne (Scalar.extui (Scalar.cmpf .ogt (k0_pay3 i gates) (Scalar.ofBits .f32 0x00000000#32)) : BitVec 32) 0#32 = 1#1

/-- The step is the token tile's last: its expert is number 15. -/
def Closes (i : grid0.Coords) : Prop := k0_cond3 i = 1#1

instance (i : grid0.Coords) : Decidable (Opens i) := by unfold Opens; infer_instance
instance (i : grid0.Coords) (g : Vec F S1024x16 .f32) : Decidable (Routed i g) := by unfold Routed; infer_instance
instance (i : grid0.Coords) : Decidable (Closes i) := by unfold Closes; infer_instance

/-- The accumulator the step adds to: the one it found, or zeros at the tile's first step. -/
def accStart (i : grid0.Coords) (found : Vec F S1024x1024 .f32) : Vec F S1024x1024 .f32 :=
  if Opens i then k0_pay1 else found

/-- The accumulator after the step: with the expert's weighted output added, if a token is routed to it. -/
def accAfter (i : grid0.Coords) (xb : Vec F S1024x1024 .bf16) (gates : Vec F S1024x16 .f32)
    (wg wu : Vec F S1x1024x512 .bf16) (wd : Vec F S1x512x1024 .bf16) (found : Vec F S1024x1024 .f32) : Vec F S1024x1024 .f32 :=
  if Routed i gates then k0_pay4 i gates xb wg wu wd (accStart i found) else accStart i found

/-- The output's buffer after the step: the layer norm of the finished sum at the tile's last step, else as found. -/
def outAfter (i : grid0.Coords) (x1 acc : Vec F S1024x1024 .f32) (g2 b2 : Vec F S1x1024 .f32) (found : Vec F S1024x1024 .f32) :
    Vec F S1024x1024 .f32 :=
  if Closes i then k0_pay5 x1 acc g2 b2 else found

theorem pay4_congr {i : grid0.Coords} {g : Vec F S1024x16 .f32} {x : Vec F S1024x1024 .bf16} {wg wu : Vec F S1x1024x512 .bf16}
    {wd : Vec F S1x512x1024 .bf16} {a a' : Vec F S1024x1024 .f32} (h : a = a') : k0_pay4 i g x wg wu wd a = k0_pay4 i g x wg wu wd a' := by
  rw [h]

theorem pay5_congr {x a a' : Vec F S1024x1024 .f32} {g b : Vec F S1x1024 .f32} (h : a = a') : k0_pay5 x a g b = k0_pay5 x a' g b := by
  rw [h]

set_option maxHeartbeats 4000000 in
/-- The body on whole memrefs: it reads its eight inputs, and leaves the accumulator and the output's buffer at
    `accAfter` and `outAfter` of what it read. -/
theorem body_run (c : Dev nD) (i : grid0.Coords)
    (a2 : Memref sig .tc .vmem S1024x1024 .bf16) (h2 : a2.IsWhole) (a3 : Memref sig .tc .vmem S1024x1024 .f32) (h3 : a3.IsWhole)
    (a4 : Memref sig .tc .vmem S1024x16 .f32) (h4 : a4.IsWhole) (a5 : Memref sig .tc .vmem S1x1024x512 .bf16) (h5 : a5.IsWhole)
    (a6 : Memref sig .tc .vmem S1x1024x512 .bf16) (h6 : a6.IsWhole) (a7 : Memref sig .tc .vmem S1x512x1024 .bf16) (h7 : a7.IsWhole)
    (a8 : Memref sig .tc .vmem S1x1024 .f32) (h8 : a8.IsWhole) (a9 : Memref sig .tc .vmem S1x1024 .f32) (h9 : a9.IsWhole)
    (a10 : Memref sig .tc .vmem S1024x1024 .f32) (h10 : a10.IsWhole) (a11 : Memref sig .tc .vmem S1024x1024 .f32) (h11 : a11.IsWhole)
    (x0 : Vec F S1024x1024 .bf16) (x1 : Vec F S1024x1024 .f32) (x2 : Vec F S1024x16 .f32) (x3 x4 : Vec F S1x1024x512 .bf16)
    (x5 : Vec F S1x512x1024 .bf16) (x6 x7 : Vec F S1x1024 .f32) (xo xs : Vec F S1024x1024 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare x7
        ∗ owns (c : Thread nD τ) a10 fullShare xo ∗ owns (c : Thread nD τ) a11 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare x7
            ∗ owns (c : Thread nD τ) a10 fullShare (outAfter i x1 (accAfter i x0 x2 x3 x4 x5 xs) x6 x7 xo)
            ∗ owns (c : Thread nD τ) a11 fullShare (accAfter i x0 x2 x3 x4 x5 xs)) -∗ K ⟨⟩))
      ⊢ wp frame (wpE (defs₀ (F := F)) Variants.none c none) E
          (cc0_moe i a2 h2 a3 h3 a4 h4 a5 h5 a6 h6 a7 h7 a8 h8 a9 h9 a10 h10 a11 h11) K := by
  simp only [cc0_moe_eq_skeleton]; unfold cc0_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  have e0 := (View.readAt_full a2.view f0 inb_S1024x1024_S1024x1024_0_0).trans hf0
  have e1 := (View.readAt_full a3.view f1 inb_S1024x1024_S1024x1024_0_0).trans hf1
  have e2 := (View.readAt_full a4.view f2 inb_S1024x16_S1024x16_0_0).trans hf2
  have e3 := (View.readAt_full a5.view f3 inb_S1x1024x512_S1x1024x512_0_0_0).trans hf3
  have e4 := (View.readAt_full a6.view f4 inb_S1x1024x512_S1x1024x512_0_0_0).trans hf4
  have e5 := (View.readAt_full a7.view f5 inb_S1x512x1024_S1x512x1024_0_0_0).trans hf5
  have e6 := (View.readAt_full a8.view f6 inb_S1x1024_S1x1024_0_0).trans hf6
  have e7 := (View.readAt_full a9.view f7 inb_S1x1024_S1x1024_0_0).trans hf7
  have es := (View.readAt_full a11.view fs inb_S1024x1024_S1024x1024_0_0).trans hfs
  by_cases hc0 : Opens i <;> by_cases hc1 : Routed i x2 <;> by_cases hc2 : Closes i <;>
  · simp only [outAfter, accAfter, accStart, hc0, hc1, hc2, if_true, if_false]
    unfold Opens at hc0; unfold Routed at hc1; unfold Closes at hc2
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _
      isplitr
      swap; · iexact H8
      ipureintro
      first
      | with_reducible exact hf8
      | exact (View.read_writes_full _ _ _ _ _).trans (pay5_congr ((View.readCov_full _ _ _ _ _).trans (pay4_congr (View.readCov_full _ _ _ _ _))))
      | exact (View.read_writes_full _ _ _ _ _).trans (pay5_congr (View.readCov_full _ _ _ _ _))
      | exact View.read_writes_full _ _ _ _ _
    · iexists _
      isplitr
      swap; · iexact HS
      ipureintro
      first
      | with_reducible exact hfs
      | exact (View.read_writes_full _ _ _ _ _).trans (pay4_congr (View.readCov_full _ _ _ _ _))
      | exact View.read_writes_full _ _ _ _ _

end Cert.Proof.Moe

end
-- ==== Proof.MoeFrame.lean ====
/- The experts' kernel over its whole grid: the accumulator point by point, the launch, and the frame. -/
module

public import proofs.«01_k».proof.Proof.MoeBody
public import Idealize.ShloMosaic.Lib.Claim

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the grid's points stand -/

theorem point_lt (t : Fin cfg0.N) : t.val < 1024 := lt_of_lt_of_eq t.isLt (show cfg0.N = 1024 from N_0)

theorem coord_expert (t : Fin cfg0.N) : (grid0.coords t 1).val = t.val % 16 := by
  have h : (grid0.coords t 1).val = t.val / 1 % 16 := Pipeline.Grid.coords_val t 1 (by decide) rfl
  rw [h, Nat.div_one]

theorem opens_iff (t : Fin cfg0.N) : Opens (grid0.coords t) ↔ t.val % 16 = 0 := by
  have ht := point_lt t
  unfold Opens
  simp only [coord_expert]
  word_cmp

theorem closes_iff (t : Fin cfg0.N) : Closes (grid0.coords t) ↔ t.val % 16 = 15 := by
  have ht := point_lt t
  unfold Closes k0_cond3
  simp only [coord_expert]
  word_cmp

theorem idle_of_open : ∀ t : Fin cfg0.N, ¬t.val % 16 = 15 → cfg0.idle 8 (grid0.coords t) = true := by decide +kernel

theorem live_of_close : ∀ t : Fin cfg0.N, t.val % 16 = 15 → cfg0.idle 8 (grid0.coords t) = false := by decide +kernel

theorem kept_of_open (t : Fin cfg0.N) (h : ¬t.val % 16 = 15) : (cfg0.win 8).flush t = false :=
  Bool.eq_false_iff.mpr fun hf => h ((flush0_8 t).mp hf)

/-! ## The accumulator and the output, point by point -/

/-- One point's step of the accumulator, on the blocks staged there. -/
def step (c : Dev nD) (t : Fin cfg0.N) (found : Vec F S1024x1024 .f32) : Vec F S1024x1024 .f32 :=
  accAfter (grid0.coords t) (iblk m c 0 t) (iblk m c 2 t) (iblk m c 3 t) (iblk m c 4 t) (iblk m c 5 t) found

/-- The accumulator after point `n`. -/
def accAt (c : Dev nD) : (n : ℕ) → n < cfg0.N → Vec F S1024x1024 .f32
  | 0, h => step m c ⟨0, h⟩ k0_pay1
  | n + 1, h => step m c ⟨n + 1, h⟩ (accAt c n (Nat.lt_of_succ_lt h))

/-- What a tile's last point leaves in the output's buffer. -/
def outAt (c : Dev nD) (t : Fin cfg0.N) : Vec F S1024x1024 .f32 :=
  k0_pay5 (iblk m c 1 t) (accAt m c t.val t.isLt) (iblk m c 6 t) (iblk m c 7 t)

/-- The accumulator's buffer before point `n` holds what the point before left; before the first, anything. -/
def Carries (c : Dev nD) (n : ℕ) (d : Vec F S1024x1024 .f32) : Prop := ∀ (k : ℕ) (hk : k < cfg0.N), k + 1 = n → d = accAt m c k hk

theorem accAt_of_carries (c : Dev nD) (t : Fin cfg0.N) (d : Vec F S1024x1024 .f32) (hd : Carries m c t.val d) :
    step m c t d = accAt m c t.val t.isLt := by
  obtain ⟨n, hn⟩ := t
  cases n with
  | zero =>
    have h : Opens (grid0.coords ⟨0, hn⟩) := (opens_iff _).mpr rfl
    simp only [accAt, step, accAfter, accStart, if_pos h]
  | succ k => rw [hd k (Nat.lt_of_succ_lt hn) rfl]; rfl

abbrev accM : Memref sig .tc .vmem S1024x1024 .f32 := Memref.whole cc0_scratch0

/-- Between points: the accumulator's buffer carries, and the generator's register is at some state. -/
def Between (c : Dev nD) (n : ℕ) : sProp 𝕄 :=
  iprop((∃ d, ⌜Carries m c n d⌝ ∗ owns (c : Thread nD τ) accM fullShare d) ∗ (∃ r, prngReg c r))

theorem atLaunch_eq (c : Dev nD) :
    (Pipeline.ΦA spec0 c : sProp 𝕄) = iprop((∃ d, owns (c : Thread nD τ) accM fullShare d) ∗ (∃ r, prngReg c r)) := by
  unfold Pipeline.ΦA; rw [scopedRest0_eq]; simp only [accM, owns_whole]; rfl

theorem between_zero (c : Dev nD) : Pipeline.ΦA spec0 c ⊢ Between m c 0 := by
  rw [atLaunch_eq]
  unfold Between
  iintro ⟨⟨%d, H⟩, Hg⟩
  isplitl [H]
  · iexists d; isplitr
    · ipureintro; exact fun k _ h => absurd h (Nat.succ_ne_zero k)
    iexact H
  iexact Hg

theorem between_last (c : Dev nD) (n : ℕ) : Between m c n ⊢ Pipeline.ΦA spec0 c := by
  rw [atLaunch_eq]
  unfold Between
  iintro ⟨⟨%d, %hd, H⟩, Hg⟩
  isplitl [H]
  · iexists d; iexact H
  iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Between m c t.val
  q _ := fullShare
  owed _ := 0

theorem A_eq (c : Dev nD) (w : Fin cfg0.W) : (dats m 0 c).A w = V m c (Pipeline.arrRef spec0 w) := by
  dsimp only [dats]

theorem after8 (c : Dev nD) (t : Fin cfg0.N) : (dats m 0 c).after 8 t = outAt m c t := by dsimp only [dats]

/-- Each input's buffer holds its block, before the body at a point and after it. -/
theorem before0 (c : Dev nD) (t : Fin cfg0.N) (d) : (dats m 0 c).before 0 t d = iblk m c 0 t :=
  before0_0_of m _ (A_eq m c 0) (fun _ => by dsimp only [dats]) t d
theorem before1 (c : Dev nD) (t : Fin cfg0.N) (d) : (dats m 0 c).before 1 t d = iblk m c 1 t :=
  before0_1_of m _ (A_eq m c 1) (fun _ => by dsimp only [dats]) t d
theorem before2 (c : Dev nD) (t : Fin cfg0.N) (d) : (dats m 0 c).before 2 t d = iblk m c 2 t :=
  before0_2_of m _ (A_eq m c 2) (fun _ => by dsimp only [dats]) t d
theorem before3 (c : Dev nD) (t : Fin cfg0.N) (d) : (dats m 0 c).before 3 t d = iblk m c 3 t :=
  before0_3_of m _ (A_eq m c 3) (fun _ => by dsimp only [dats]) t d
theorem before4 (c : Dev nD) (t : Fin cfg0.N) (d) : (dats m 0 c).before 4 t d = iblk m c 4 t :=
  before0_4_of m _ (A_eq m c 4) (fun _ => by dsimp only [dats]) t d
theorem before5 (c : Dev nD) (t : Fin cfg0.N) (d) : (dats m 0 c).before 5 t d = iblk m c 5 t :=
  before0_5_of m _ (A_eq m c 5) (fun _ => by dsimp only [dats]) t d
theorem before6 (c : Dev nD) (t : Fin cfg0.N) (d) : (dats m 0 c).before 6 t d = iblk m c 6 t :=
  before0_6_of m _ (A_eq m c 6) (fun _ => by dsimp only [dats]) t d
theorem before7 (c : Dev nD) (t : Fin cfg0.N) (d) : (dats m 0 c).before 7 t d = iblk m c 7 t :=
  before0_7_of m _ (A_eq m c 7) (fun _ => by dsimp only [dats]) t d

/-- An input is never idle, so what the body must leave of it is its block. -/
theorem leaves_input (c : Dev nD) (w : Fin cfg0.W) (t : Fin cfg0.N) (h : cfg0.idle w (grid0.coords t) = false)
    (x) (hx : (dats m 0 c).after w t = x) :
    (dats m 0 c).leavesExact w t = owns (c : Thread nD τ) ((cfg0.win w).stage (cfg0.slots t w)) fullShare x := by
  unfold Dat.leavesExact
  rw [h, hx]

/-- What the body is called with at a point, window by window, -/
def called (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it must return. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- The output's buffer as the step leaves it is as the pipeline wants it: finished at a tile's last point, else untouched. -/
theorem leaves_output (c : Dev nD) (t : Fin cfg0.N) (d) (acc : Vec F S1024x1024 .f32) (hacc : acc = accAt m c t.val t.isLt) :
    owns (c : Thread nD τ) (st0_8 t) fullShare
        (outAfter (grid0.coords t) (iblk m c 1 t) acc (iblk m c 6 t) (iblk m c 7 t) ((dats m 0 c).before 8 t d))
      ⊢ (dats m 0 c).leavesExact 8 t := by
  subst hacc
  by_cases h : t.val % 16 = 15
  · rw [outAfter, if_pos ((closes_iff t).mpr h), leaves_input m c 8 t (live_of_close t h) _ (after8 m c t)]
    exact .rfl
  · rw [outAfter, if_neg (fun hc => h ((closes_iff t).mp hc)),
      Dat.leavesExact_idle (dats m 0 c) 8 t (idle_of_open t h) (kept_of_open t h)]
    iintro H
    iexists _; iexact H

set_option maxHeartbeats 4000000 in
/-- The body at any point, from the point's blocks and the carried accumulator. -/
theorem point_run (c : Dev nD) (t : Fin cfg0.N) :
    called m c t ⊢ wp frame (wpE (defs₀ (F := F)) Variants.none c none) Set.univ (bodyAt0 t) (fun _ => returned m c t) := by
  unfold called returned bodyAt0
  simp only [before0, before1, before2, before3, before4, before5, before6, before7]
  rw [show (dats m 0 c).owesAt () t.succ = (dats m 0 c).owesAt () t.castSucc from rfl,
    show (dats m 0 c).Φ t.castSucc = Between m c t.val from rfl, show (dats m 0 c).Φ t.succ = Between m c (t.val + 1) from rfl,
    leaves_input m c 0 t rfl (iblk m c 0 t) (by dsimp only [dats]), leaves_input m c 1 t rfl (iblk m c 1 t) (by dsimp only [dats]),
    leaves_input m c 2 t rfl (iblk m c 2 t) (by dsimp only [dats]), leaves_input m c 3 t rfl (iblk m c 3 t) (by dsimp only [dats]),
    leaves_input m c 4 t rfl (iblk m c 4 t) (by dsimp only [dats]), leaves_input m c 5 t rfl (iblk m c 5 t) (by dsimp only [dats]),
    leaves_input m c 6 t rfl (iblk m c 6 t) (by dsimp only [dats]), leaves_input m c 7 t rfl (iblk m c 7 t) (by dsimp only [dats])]
  unfold Between
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hacc := accAt_of_carries m c t ds hds
  iapply (body_run c (grid0.coords t) (st0_0 t) _ (st0_1 t) _ (st0_2 t) _ (st0_3 t) _ (st0_4 t) _ (st0_5 t) _ (st0_6 t) _ (st0_7 t) _
    (st0_8 t) _ accM _ (iblk m c 0 t) (iblk m c 1 t) (iblk m c 2 t) (iblk m c 3 t) (iblk m c 4 t) (iblk m c 5 t) (iblk m c 6 t)
    (iblk m c 7 t) _ ds Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · iexists _; isplitr
      swap; · iexact HS
      ipureintro
      intro k hk e
      obtain rfl : k = t.val := Nat.succ.inj e
      exact hacc
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves_output m c t d8 _ hacc)
  iexact H8

theorem defs₀_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (point_run m c t) rfl .rfl fun _ => .rfl

/-! ## The launch and the frame -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := between_zero m) (hout := fun c => between_last m c _)

theorem run : θ_run defs (onTc (τ := τ) (main (F := F))) (s₀ m ρ) (Pipeline.FramePost cfgs (dats m) 0 (V m)) :=
  (θ_run defs _ _).mono (fun _ h => h.1) (run_quiescent m ρ)

/-- Every run of the experts' program ends with the argument arrays as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiescent m ρ))

end Cert.Proof.Moe

end
-- ==== Proof.MoeExact.lean ====
/- The experts' program in the machine's own arithmetic: it is the same text as the idealized one, so the frame,
   proved over any arithmetic, is its frame too. -/
module

public import proofs.«01_k».proof.Defs
public import proofs.«01_k».proof.Proof.Gen.Kernel2
public import proofs.«01_k».proof.Proof.MoeFrame

@[expose] public section

set_option maxRecDepth 16384

namespace Cert.Proof.Moe

open Idealize.ShloMosaic Idealize.SL.Sem

/-- The two programs' body tables are one: their one label runs the one body. -/
theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (_, _) => rfl

theorem tables_eq : Cert.Kernel2.defs (F := Bits) = Cert.Kernel2Ideal.defs (F := Bits) :=
  congrArg (Pipeline.defs Cert.Kernel2Ideal.pcfgs) bodies_eq

theorem exact_frame : Cert.quiescent_Kernel2 (hKernel2 := Cert.Kernel2.Gen.facts) := by
  intro m ρ _
  rw [tables_eq]
  exact frame (F := Bits) m ρ

end Cert.Proof.Moe

end
-- ==== Proof.MoeMath.lean ====
/-
  A token's way through the experts and the last layer norm, over the extended reals.
-/
module

public import Idealize.ShloMosaic.Lib.Pointwise

@[expose] public section

noncomputable section

namespace Cert.Proof.Moe

open Idealize.ShloMosaic

/-- One hidden unit of an expert: the gated product of its two projections of the token. -/
def hidden {n : ℕ} (x wg wu : Fin n → EReal) : EReal :=
  ((∑ k, x k * wg k) * Ideal.logistic (∑ k, x k * wg k)) * ∑ k, x k * wu k

/-- One output of an expert. -/
def expertOut {n f : ℕ} (x : Fin n → EReal) (wg wu : Fin n → Fin f → EReal) (wd : Fin f → EReal) : EReal :=
  ∑ j, hidden x (fun k => wg k j) (fun k => wu k j) * wd j

/-- A row's mean. -/
def mean {n : ℕ} (h : Fin n → EReal) : EReal := Ideal.div (∑ k, h k) (Ideal.ofBits .f32 0x44800000#32)

/-- A row's layer norm at one place. -/
def normed {n : ℕ} (h : Fin n → EReal) (g b : EReal) (d : Fin n) : EReal :=
  (h d - mean h) * Ideal.rsqrt (mean (fun k => (h k - mean h) * (h k - mean h)) + Ideal.ofBits .f32 0x3727C5AC#32) * g + b

end Cert.Proof.Moe

end
-- ==== Proof.MoeStep.lean ====
/-
  The experts' kernel's step on its blocks, index by index.
-/
module

public import proofs.«01_k».proof.Proof.MoeBody
public import proofs.«01_k».proof.Proof.MoeMath
public import Idealize.ShloMosaic.Lib.Pointwise

@[expose] public section

set_option maxRecDepth 16384

noncomputable section

namespace Cert.Proof.Moe

open Cert.Kernel2Ideal Cert.Kernel2Ideal.Gen
open Idealize.ShloMosaic Idealize.ShloMosaic.TcCoe Idealize.SL.Sem

theorem zeros_apply (r d : Fin 1024) : k0_pay1 (F := Ideal) (ix2 r d) = 0 := by
  pointwise [k0_pay1]

theorem lane_eq : ∀ e : Fin 16, IntOp.cmpi CmpIPredicate.eq (BitVec.ofNat 32 e.val) (BitVec.ofNat 32 e.val) = 1#1 := by decide

theorem lane_ne : ∀ l e : Fin 16, l ≠ e → IntOp.cmpi CmpIPredicate.eq (BitVec.ofNat 32 l.val) (BitVec.ofNat 32 e.val) = 0#1 := by decide

/-- The gates' column of the step's expert. -/
theorem column_apply (i : grid0.Coords) (e : Fin 16) (he : (i 1).val = e.val) (g : FVec Ideal S1024x16 .f32) (r : Fin 1024) :
    k0_pay2 (F := Ideal) i g (ix2 r 0) = g (ix2 r e) := by
  pointwise [k0_pay2, he]
  refine (Finset.sum_eq_single e (fun l _ hl => ?_) fun h => absurd (Finset.mem_univ e) h).trans ?_
  · rw [lane_ne l e hl]; rfl
  · rw [lane_eq e]; rfl

/-- A tile whose largest gate for the expert is not positive has none that is. -/
theorem column_nonpos (i : grid0.Coords) (e : Fin 16) (he : (i 1).val = e.val) (g : FVec Ideal S1024x16 .f32)
    (h : ¬Routed (F := Ideal) i g) (r : Fin 1024) : g (ix2 r e) ≤ 0 := by
  have hm : ¬(0 : EReal) < k0_pay3 (F := Ideal) i g := by
    intro hp
    refine h ?_
    have hc : Scalar.cmpf (F := Ideal) .ogt (k0_pay3 (F := Ideal) i g) (Scalar.ofBits .f32 0x00000000#32) = 1#1 := by
      show Ideal.cmp .ogt _ (Ideal.ofBits .f32 0x00000000#32) = 1#1
      rw [Ideal.ofBits_zero_f32]
      exact congrArg _ (decide_eq_true hp)
    unfold Routed
    rw [hc]
    decide
  have hf : k0_pay3 (F := Ideal) i g = Finset.univ.fold max (Ideal.ofBits .f32 0xFF800000#32) fun x : Fin 1024 × Fin 1 => k0_pay2 i g (ix2 x.1 0) := by
    unfold k0_pay3
    pointwise
  rw [not_lt, hf, Finset.fold_max_le] at hm
  rw [← column_apply i e he g r]
  exact hm.2 (r, 0) (Finset.mem_univ _)

/-- The accumulating payload adds the expert's output, weighted by the token's gate. -/
theorem added_apply (i : grid0.Coords) (e : Fin 16) (he : (i 1).val = e.val) (g : FVec Ideal S1024x16 .f32) (x : FVec Ideal S1024x1024 .bf16)
    (wg wu : FVec Ideal S1x1024x512 .bf16) (wd : FVec Ideal S1x512x1024 .bf16) (acc : FVec Ideal S1024x1024 .f32) (r d : Fin 1024) :
    k0_pay4 (F := Ideal) i g x wg wu wd acc (ix2 r d)
      = acc (ix2 r d) + expertOut (fun k : Fin 1024 => x (ix2 r k)) (fun k (f : Fin 512) => wg (ix3 0 k f)) (fun k f => wu (ix3 0 k f)) (fun f => wd (ix3 0 f d))
          * g (ix2 r e) := by
  rw [← column_apply i e he g r]
  pointwise [k0_pay4, expertOut, hidden]

/-- The output's payload is the layer norm of the weighted residual and the accumulator. -/
theorem closing_apply (x acc : FVec Ideal S1024x1024 .f32) (g b : FVec Ideal S1x1024 .f32) (r d : Fin 1024) :
    k0_pay5 (F := Ideal) x acc g b (ix2 r d)
      = normed (fun k : Fin 1024 => Ideal.ofBits .f32 0x3F9837F0#32 * x (ix2 r k) + acc (ix2 r k)) (g (ix2 0 d)) (b (ix2 0 d)) d := by
  pointwise [k0_pay5, normed, mean]

/-- A step adds the expert's output weighted by the gates, whether or not it is skipped, when no gate is negative. -/
theorem accAfter_apply (i : grid0.Coords) (e : Fin 16) (he : (i 1).val = e.val) (g : FVec Ideal S1024x16 .f32) (x : FVec Ideal S1024x1024 .bf16)
    (wg wu : FVec Ideal S1x1024x512 .bf16) (wd : FVec Ideal S1x512x1024 .bf16) (found : FVec Ideal S1024x1024 .f32)
    (hg : ∀ r : Fin 1024, 0 ≤ g (ix2 r e)) (r d : Fin 1024) :
    accAfter (F := Ideal) i x g wg wu wd found (ix2 r d)
      = accStart (F := Ideal) i found (ix2 r d)
        + expertOut (fun k : Fin 1024 => x (ix2 r k)) (fun k (f : Fin 512) => wg (ix3 0 k f)) (fun k f => wu (ix3 0 k f)) (fun f => wd (ix3 0 f d))
          * g (ix2 r e) := by
  unfold accAfter
  split
  · exact added_apply i e he g x wg wu wd _ r d
  · rename_i h
    rw [le_antisymm (column_nonpos i e he g h r) (hg r), mul_zero, add_zero]

end Cert.Proof.Moe

end
-- ==== Proof.MoeRef.lean ====
/-
  The reference's experts and last layer norm at an index.
-/
module

public import proofs.«01_k».proof.Proof.MoeMath
public import proofs.«01_k».proof.Proof.Gen.Reference2Ideal.Run

@[expose] public section

set_option maxRecDepth 16384

noncomputable section

open Idealize.ShloMosaic Idealize.ShloMosaic.TcCoe Idealize.SL.Sem

namespace Cert.Reference2Ideal.Moe

open Cert.Reference2Ideal Cert.Reference2Ideal.Gen Cert.Proof.Moe

variable (x : FVec Ideal S65536x1024 .f32) (gates : FVec Ideal S65536x16 .f32) (wg wu : FVec Ideal S16x1024x512 .f32)
  (wd : FVec Ideal S16x512x1024 .f32) (g b : FVec Ideal S1024 .f32)

/-- Every expert's projection of every token. -/
def PROJ (w : FVec Ideal S16x1024x512 .f32) : FVec Ideal S16x65536x512 .f32 :=
  transpose S16x65536x512 [0, 2, 1] (Host.dotGeneral dot_S16x1024x512_S65536x1024_S16x512x65536_1_1_02_0_n_n none w x) transposes_S16x512x65536_S16x65536x512_0_2_1

def SILU (h : FVec Ideal S16x65536x512 .f32) : FVec Ideal S16x65536x512 .f32 :=
  mulf h (Host.divf (broadcastInDim S16x65536x512 ![] bcast_S_S16x65536x512 (constant S_ .f32 0x3F800000#32)) (addf (broadcastInDim S16x65536x512 ![] bcast_S_S16x65536x512 (constant S_ .f32 0x3F800000#32)) (Host.exp (Host.negf h))))

/-- The experts' outputs, weighted by the gates and added up. -/
def MIX (h : FVec Ideal S16x65536x512 .f32) : FVec Ideal S65536x1024 .f32 :=
  Host.reduceAdd (mulf (Host.dotGeneral dot_S16x65536x512_S16x512x1024_S16x65536x1024_2_1_1_2_0_0 none h wd) (broadcastInDim S16x65536x1024 ![0, 1, 2] bcast_S16x65536x1_S16x65536x1024_0_1_2 (broadcastInDim S16x65536x1 ![0, 1] bcast_S16x65536_S16x65536x1_0_1 (transpose S16x65536 [1, 0] gates transposes_S65536x16_S16x65536_1_0)))) (constant S_ .f32 0x00000000#32) reducesTo_S16x65536x1024_S65536x1024_d0 h_S_

/-- The residual, weighted, and the experts' part. -/
def RES (y : FVec Ideal S65536x1024 .f32) : FVec Ideal S65536x1024 .f32 :=
  addf (mulf (broadcastInDim S65536x1024 ![] bcast_S_S65536x1024 (constant S_ .f32 0x3F9837F0#32)) x) y

/-- The rows' means, one column. -/
def MEAN (h : FVec Ideal S65536x1024 .f32) : FVec Ideal S65536x1 .f32 :=
  Host.divf (broadcastInDim S65536x1 ![0] bcast_S65536_S65536x1_0 (Host.reduceAdd h (constant S_ .f32 0x00000000#32) reducesTo_S65536x1024_S65536_d1 h_S_)) (broadcastInDim S65536x1 ![] bcast_S_S65536x1 (constant S_ .f32 0x44800000#32))

def CENTRED (h : FVec Ideal S65536x1024 .f32) : FVec Ideal S65536x1024 .f32 :=
  subf h (broadcastInDim S65536x1024 ![0, 1] bcast_S65536x1_S65536x1024_0_1 (MEAN h))

/-- The rows' layer norm. -/
def NORM (h : FVec Ideal S65536x1024 .f32) : FVec Ideal S65536x1024 .f32 :=
  addf (mulf (mulf (CENTRED h) (broadcastInDim S65536x1024 ![0, 1] bcast_S65536x1_S65536x1024_0_1 (Host.rsqrt (addf (MEAN (mulf (CENTRED h) (CENTRED h))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 g))) (broadcastInDim S65536x1024 ![0, 1] bcast_S1x1024_S65536x1024_0_1 (broadcastInDim S1x1024 ![1] bcast_S1024_S1x1024_1 b))

/-- The reference's result. -/
def OUT : FVec Ideal S65536x1024 .f32 := NORM g b (RES x (MIX gates wd (mulf (SILU (PROJ x wg)) (PROJ x wu))))

theorem proj_apply (w : FVec Ideal S16x1024x512 .f32) (e : Fin 16) (t : Fin 65536) (f : Fin 512) :
    PROJ x w (ix3 e t f) = ∑ k : Fin 1024, x (ix2 t k) * w (ix3 e k f) := by
  pointwise [PROJ]
  exact Finset.sum_congr rfl fun k _ => mul_comm _ _

theorem silu_apply (h : FVec Ideal S16x65536x512 .f32) (e : Fin 16) (t : Fin 65536) (f : Fin 512) :
    SILU h (ix3 e t f) = h (ix3 e t f) * Ideal.logistic (h (ix3 e t f)) := by
  pointwise [SILU]
  rfl

theorem mix_apply (h : FVec Ideal S16x65536x512 .f32) (t : Fin 65536) (d : Fin 1024) :
    MIX gates wd h (ix2 t d) = ∑ e : Fin 16, (∑ f : Fin 512, h (ix3 e t f) * wd (ix3 e f d)) * gates (ix2 t e) := by
  pointwise [MIX]

theorem mean_apply (h : FVec Ideal S65536x1024 .f32) (t : Fin 65536) :
    MEAN h (ix2 t 0) = mean (fun k : Fin 1024 => h (ix2 t k)) := by
  pointwise [MEAN, mean]

theorem centred_apply (h : FVec Ideal S65536x1024 .f32) (t : Fin 65536) (d : Fin 1024) :
    CENTRED h (ix2 t d) = h (ix2 t d) - mean (fun k : Fin 1024 => h (ix2 t k)) := by
  rw [← mean_apply]
  pointwise [CENTRED]

theorem norm_apply (h : FVec Ideal S65536x1024 .f32) (t : Fin 65536) (d : Fin 1024) :
    NORM g b h (ix2 t d) = normed (fun k : Fin 1024 => h (ix2 t k)) (g (ix1 d)) (b (ix1 d)) d := by
  have hsq : MEAN (mulf (CENTRED h) (CENTRED h)) (ix2 t 0)
      = mean fun k : Fin 1024 => (h (ix2 t k) - mean fun k' : Fin 1024 => h (ix2 t k')) * (h (ix2 t k) - mean fun k' : Fin 1024 => h (ix2 t k')) := by
    refine (mean_apply _ t).trans (congrArg mean (funext fun k => ?_))
    show CENTRED h _ * CENTRED h _ = _
    rw [centred_apply]
  unfold normed
  rw [← hsq, ← centred_apply]
  pointwise [NORM]

theorem res_apply (y : FVec Ideal S65536x1024 .f32) (t : Fin 65536) (d : Fin 1024) :
    RES x y (ix2 t d) = Ideal.ofBits .f32 0x3F9837F0#32 * x (ix2 t d) + y (ix2 t d) := by
  pointwise [RES]

theorem out_apply (t : Fin 65536) (d : Fin 1024) :
    OUT x gates wg wu wd g b (ix2 t d)
      = normed (fun k : Fin 1024 => Ideal.ofBits .f32 0x3F9837F0#32 * x (ix2 t k)
          + ∑ e : Fin 16, expertOut (fun k' : Fin 1024 => x (ix2 t k')) (fun k' (f : Fin 512) => wg (ix3 e k' f)) (fun k' f => wu (ix3 e k' f)) (fun f => wd (ix3 e f k))
              * gates (ix2 t e)) (g (ix1 d)) (b (ix1 d)) d := by
  unfold OUT
  refine (norm_apply g b _ t d).trans (congrArg (fun h => normed h _ _ d) (funext fun k => ?_))
  refine (res_apply x _ t k).trans ?_
  rw [mix_apply]
  refine congrArg (_ + ·) (Finset.sum_congr rfl fun e _ => congrArg (· * _) (Finset.sum_congr rfl fun f _ => congrArg (· * _) ?_))
  show SILU _ _ * PROJ _ _ _ = _
  rw [silu_apply, proj_apply, proj_apply]
  rfl

theorem result_eq (m : (ℓ : Loc nD τ sig) → Buf (Elt Ideal) ℓ) (c : Dev nD) :
    Cert.Reference2Ideal.Value.res_out0 m c
      = OUT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.Reference2Ideal.Value.res_out0 Cert.Reference2Ideal.Value.res_main_v38
  rfl

end Cert.Reference2Ideal.Moe

end
-- ==== Proof.MoeFinal.lean ====
/-
  The experts' kernel's result is the reference's, wherever no gate is negative.
-/
module

public import proofs.«01_k».proof.Proof.MoeFrame
public import proofs.«01_k».proof.Proof.MoeStep
public import proofs.«01_k».proof.Proof.MoeRef
public import Idealize.ShloMosaic.Lib.Pipeline.ValueKit

@[expose] public section

set_option maxRecDepth 16384

noncomputable section

namespace Cert.Proof.Moe

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-! ## The arguments, and the arrays the launch finds -/

abbrev argX (c : Dev nD) : FVec Ideal S65536x1024 .f32 := m (c, Proc.tc.devRef main_arg0)
abbrev argGates (c : Dev nD) : FVec Ideal S65536x16 .f32 := m (c, Proc.tc.devRef main_arg1)
abbrev argWg (c : Dev nD) : FVec Ideal S16x1024x512 .f32 := m (c, Proc.tc.devRef main_arg2)
abbrev argWu (c : Dev nD) : FVec Ideal S16x1024x512 .f32 := m (c, Proc.tc.devRef main_arg3)
abbrev argWd (c : Dev nD) : FVec Ideal S16x512x1024 .f32 := m (c, Proc.tc.devRef main_arg4)
abbrev argG (c : Dev nD) : FVec Ideal S1024 .f32 := m (c, Proc.tc.devRef main_arg5)
abbrev argB (c : Dev nD) : FVec Ideal S1024 .f32 := m (c, Proc.tc.devRef main_arg6)

theorem wg_entry (c : Dev nD) : V m c main_v0 = truncf (F := Ideal) .bf16 (argWg m c) bitsLt_bf16_f32 := by
  unfold V
  after_results <;> rfl
theorem wu_entry (c : Dev nD) : V m c main_v1 = truncf (F := Ideal) .bf16 (argWu m c) bitsLt_bf16_f32 := by
  unfold V
  after_results <;> rfl
theorem wd_entry (c : Dev nD) : V m c main_v2 = truncf (F := Ideal) .bf16 (argWd m c) bitsLt_bf16_f32 := by
  unfold V
  after_results <;> rfl
theorem g_entry (c : Dev nD) : V m c main_v3 = shapeCast S1x1024 (argG m c) shapeCasts_S1024_S1x1024 := by
  unfold V
  after_results <;> rfl
theorem b_entry (c : Dev nD) : V m c main_v4 = shapeCast S1x1024 (argB m c) shapeCasts_S1024_S1x1024 := by
  unfold V
  after_results <;> rfl
theorem x_entry (c : Dev nD) : V m c main_v5 = truncf (F := Ideal) .bf16 (argX m c) bitsLt_bf16_f32 := by
  unfold V
  after_results <;> rfl

/-! ## The blocks -/

theorem tile_index : ∀ t : Fin cfg0.N, win0_0.index t = ![t.val / 16, 0] ∧ win0_1.index t = ![t.val / 16, 0]
      ∧ win0_2.index t = ![t.val / 16, 0] ∧ win0_8.index t = ![t.val / 16, 0] :=
  (by decide +kernel : ∀ t : Fin grid0.N, win0_0.index t = ![t.val / 16, 0] ∧ win0_1.index t = ![t.val / 16, 0]
      ∧ win0_2.index t = ![t.val / 16, 0] ∧ win0_8.index t = ![t.val / 16, 0])

theorem expert_index : ∀ t : Fin cfg0.N, win0_3.index t = ![t.val % 16, 0, 0] ∧ win0_4.index t = ![t.val % 16, 0, 0]
      ∧ win0_5.index t = ![t.val % 16, 0, 0] :=
  (by decide +kernel : ∀ t : Fin grid0.N, win0_3.index t = ![t.val % 16, 0, 0] ∧ win0_4.index t = ![t.val % 16, 0, 0]
      ∧ win0_5.index t = ![t.val % 16, 0, 0])

theorem whole_index : ∀ t : Fin cfg0.N, win0_6.index t = ![0, 0] ∧ win0_7.index t = ![0, 0] :=
  (by decide +kernel : ∀ t : Fin grid0.N, win0_6.index t = ![0, 0] ∧ win0_7.index t = ![0, 0])

/-- The token a tile's row is. -/
def token (t : Fin cfg0.N) (r : Fin 1024) : Fin 65536 := ⟨t.val / 16 * 1024 + r.val, by have := point_lt t; omega⟩

/-- The expert of a point. -/
def expert (t : Fin cfg0.N) : Fin 16 := ⟨t.val % 16, by omega⟩

theorem xb_block (c : Dev nD) (t : Fin cfg0.N) (r k : Fin 1024) :
    (iblk m c 0 t : FVec Ideal S1024x1024 .bf16) (ix2 r k) = argX m c (ix2 (token t r) k) := by
  have hN := point_lt t
  refine Eq.trans (b := (V m c main_v5 : FVec Ideal S65536x1024 .bf16) (ix2 (token t r) k)) ?_ (congrFun (x_entry m c) _)
  unfold token
  blk_ext [iblk, (tile_index t).1]

theorem x_block (c : Dev nD) (t : Fin cfg0.N) (r k : Fin 1024) :
    (iblk m c 1 t : FVec Ideal S1024x1024 .f32) (ix2 r k) = argX m c (ix2 (token t r) k) := by
  have hN := point_lt t
  refine Eq.trans (b := (V m c main_arg0 : FVec Ideal S65536x1024 .f32) (ix2 (token t r) k)) ?_ (congrFun (V_main_arg0 m c) _)
  unfold token
  blk_ext [iblk, (tile_index t).2.1]

theorem gates_block (c : Dev nD) (t : Fin cfg0.N) (r : Fin 1024) (e : Fin 16) :
    (iblk m c 2 t : FVec Ideal S1024x16 .f32) (ix2 r e) = argGates m c (ix2 (token t r) e) := by
  have hN := point_lt t
  refine Eq.trans (b := (V m c main_arg1 : FVec Ideal S65536x16 .f32) (ix2 (token t r) e)) ?_ (congrFun (V_main_arg1 m c) _)
  unfold token
  blk_ext [iblk, (tile_index t).2.2.1]

theorem wg_block (c : Dev nD) (t : Fin cfg0.N) (k : Fin 1024) (f : Fin 512) :
    (iblk m c 3 t : FVec Ideal S1x1024x512 .bf16) (ix3 0 k f) = argWg m c (ix3 (expert t) k f) := by
  have hN := point_lt t
  refine Eq.trans (b := (V m c main_v0 : FVec Ideal S16x1024x512 .bf16) (ix3 (expert t) k f)) ?_ (congrFun (wg_entry m c) _)
  unfold expert
  blk_ext [iblk, (expert_index t).1]

theorem wu_block (c : Dev nD) (t : Fin cfg0.N) (k : Fin 1024) (f : Fin 512) :
    (iblk m c 4 t : FVec Ideal S1x1024x512 .bf16) (ix3 0 k f) = argWu m c (ix3 (expert t) k f) := by
  have hN := point_lt t
  refine Eq.trans (b := (V m c main_v1 : FVec Ideal S16x1024x512 .bf16) (ix3 (expert t) k f)) ?_ (congrFun (wu_entry m c) _)
  unfold expert
  blk_ext [iblk, (expert_index t).2.1]

theorem wd_block (c : Dev nD) (t : Fin cfg0.N) (f : Fin 512) (d : Fin 1024) :
    (iblk m c 5 t : FVec Ideal S1x512x1024 .bf16) (ix3 0 f d) = argWd m c (ix3 (expert t) f d) := by
  have hN := point_lt t
  refine Eq.trans (b := (V m c main_v2 : FVec Ideal S16x512x1024 .bf16) (ix3 (expert t) f d)) ?_ (congrFun (wd_entry m c) _)
  unfold expert
  blk_ext [iblk, (expert_index t).2.2]

theorem row_read (v : FVec Ideal S1024 .f32) (d : Fin 1024) : shapeCast S1x1024 v shapeCasts_S1024_S1x1024 (ix2 0 d) = v (ix1 d) := by
  pointwise

theorem g_block (c : Dev nD) (t : Fin cfg0.N) (d : Fin 1024) :
    (iblk m c 6 t : FVec Ideal S1x1024 .f32) (ix2 0 d) = argG m c (ix1 d) := by
  refine Eq.trans (b := (V m c main_v3 : FVec Ideal S1x1024 .f32) (ix2 0 d)) ?_ ((congrFun (g_entry m c) _).trans (row_read _ d))
  blk_ext [iblk, (whole_index t).1]

theorem b_block (c : Dev nD) (t : Fin cfg0.N) (d : Fin 1024) :
    (iblk m c 7 t : FVec Ideal S1x1024 .f32) (ix2 0 d) = argB m c (ix1 d) := by
  refine Eq.trans (b := (V m c main_v4 : FVec Ideal S1x1024 .f32) (ix2 0 d)) ?_ ((congrFun (b_entry m c) _).trans (row_read _ d))
  blk_ext [iblk, (whole_index t).2]

theorem out_emb (t : Fin cfg0.N) (r d : Fin 1024) :
    ((win0_8.blk t).view.emb (ix2 r d : S1024x1024.Idx) : S65536x1024.Idx) = ix2 (token t r) d := by
  have hN := point_lt t
  unfold token
  blk_ext [(tile_index t).2.2.2]

/-! ## The accumulator -/

/-- One expert's share in one output of one token. -/
def share (c : Dev nD) (a : Fin 65536) (e : Fin 16) (d : Fin 1024) : EReal :=
  expertOut (fun k : Fin 1024 => argX m c (ix2 a k)) (fun k (f : Fin 512) => argWg m c (ix3 e k f)) (fun k f => argWu m c (ix3 e k f))
    (fun f => argWd m c (ix3 e f d)) * argGates m c (ix2 a e)

theorem step_apply (c : Dev nD) (hg : ∀ i, (0 : EReal) ≤ argGates m c i) (t : Fin cfg0.N) (found : FVec Ideal S1024x1024 .f32) (r d : Fin 1024) :
    step m c t found (ix2 r d) = accStart (F := Ideal) (grid0.coords t) found (ix2 r d) + share m c (token t r) (expert t) d := by
  unfold step
  refine (accAfter_apply (grid0.coords t) (expert t) (coord_expert t) _ _ _ _ _ found (fun r' => ?_) r d).trans ?_
  · exact (hg _).trans_eq (gates_block m c t r' _).symm
  · refine congrArg (_ + ·) ?_
    unfold share
    refine Ideal.mul_congr ?_ (gates_block m c t r _)
    have h0 := funext fun k => xb_block m c t r k
    have h1 := funext fun k => funext fun f => wg_block m c t k f
    have h2 := funext fun k => funext fun f => wu_block m c t k f
    have h3 := funext fun f => wd_block m c t f d
    rw [h0, h1, h2, h3]

theorem accAt_of_open (c : Dev nD) (t : Fin cfg0.N) (h : t.val % 16 = 0) : accAt m c t.val t.isLt = step m c t (k0_pay1 (F := Ideal)) := by
  have ho := (opens_iff t).mpr h
  obtain ⟨n, hn⟩ := t
  cases n with
  | zero => rfl
  | succ k => simp only [accAt, step, accAfter, accStart, if_pos ho]

theorem accAt_eq_step (c : Dev nD) (t : Fin cfg0.N) (h : ¬t.val % 16 = 0) :
    accAt m c t.val t.isLt = step m c t (accAt m c (t.val - 1) (Nat.lt_of_le_of_lt (Nat.sub_le _ _) t.isLt)) := by
  obtain ⟨n, hn⟩ := t
  cases n with
  | zero => exact absurd rfl h
  | succ k => rfl

/-- At a tile's last point the accumulator is the sum of the experts' shares. -/
theorem accAt_closed (c : Dev nD) (hg : ∀ i, (0 : EReal) ≤ argGates m c i) (t : Fin cfg0.N) (ht : t.val % 16 = 15) (r d : Fin 1024) :
    (accAt m c t.val t.isLt : FVec Ideal S1024x1024 .f32) (ix2 r d) = ∑ e : Fin 16, share m c (token t r) e d := by
  have key := Pipeline.eq_sum_fin_of_reset_step_apply_of_flush (N := cfg0.N) (ι := Fin 1024 × Fin 1024) (M := EReal)
    (fun n h i => (accAt m c n h : FVec Ideal S1024x1024 .f32) (ix2 i.1 i.2)) 16 (fun _ => 0)
    (fun s i => share m c (token s i.1) (expert s) i.2)
    (fun s hs i => by
      rw [accAt_of_open m c s hs, step_apply m c hg, accStart, if_pos ((opens_iff s).mpr hs), zeros_apply])
    (fun s hs i => by
      rw [accAt_eq_step m c s hs, step_apply m c hg, accStart, if_neg fun h => hs ((opens_iff s).mp h)])
    t ht (r, d)
  refine key.trans ((zero_add _).trans (Finset.sum_congr rfl fun e _ => ?_))
  have h1 : token ⟨16 * (t.val / 16) + e.val, Pipeline.run_point_lt_of_flush t ht e⟩ r = token t r :=
    Fin.ext (by show (16 * (t.val / 16) + e.val) / 16 * 1024 + r.val = t.val / 16 * 1024 + r.val; omega)
  have h2 : expert ⟨16 * (t.val / 16) + e.val, Pipeline.run_point_lt_of_flush t ht e⟩ = e :=
    Fin.ext (by show (16 * (t.val / 16) + e.val) % 16 = e.val; omega)
  show share m c (token _ r) (expert _) d = _
  rw [h1, h2]

/-! ## The result -/

theorem final (c : Dev nD) (hg : ∀ i, (0 : EReal) ≤ argGates m c i) :
    (dats m 0 c).arrAt 8 cfg0.N
      = Cert.Reference2Ideal.Moe.OUT (argX m c) (argGates m c) (argWg m c) (argWu m c) (argWd m c) (argG m c) (argB m c) := by
  refine (dats m 0 c).arrAt_eq_of_covers 8 _ (by decide +kernel) fun t hf y => ?_
  have ht := (flush0_8 t).mp hf
  blk_simp [(tile_index t).2.2.2]
  rw [after8]
  unfold outAt
  obtain ⟨r, d, rfl⟩ : ∃ (r d : Fin 1024), y = (ix2 r d : S1024x1024.Idx) := ⟨y 0, y 1, eq_ix2 (n0 := 1024) (n1 := 1024) y⟩
  refine (closing_apply _ _ _ _ r d).trans (Eq.trans ?_ (congrArg _ (out_emb t r d)).symm)
  refine Eq.trans ?_ (Cert.Reference2Ideal.Moe.out_apply _ _ _ _ _ _ _ _ _).symm
  have h0 := g_block m c t d
  have h1 := b_block m c t d
  rw [h0, h1]
  refine congrArg (fun h => normed h _ _ d) (funext fun k => ?_)
  exact Ideal.add_congr (Ideal.mul_congr rfl (x_block m c t r k)) (accAt_closed m c hg t ht r k)

end Cert.Proof.Moe

end
-- ==== Proof.MoeGates.lean ====
/-
  The precondition on the gates, read.
-/
module

public import proofs.«01_k».proof.Pre_gates_nonneg
public import Idealize.ShloMosaic.Lib.Pointwise

@[expose] public section

noncomputable section

open Idealize.ShloMosaic

namespace Cert.Pre_gates_nonneg

theorem facts : Facts where
  bcast_S_S65536x16 := by decide

theorem nonneg (x : FVec Ideal S65536x1024 .f32) (gates : FVec Ideal S65536x16 .f32) (wg wu : FVec Ideal S16x1024x512 .f32)
    (wd : FVec Ideal S16x512x1024 .f32) (g b : FVec Ideal S1024 .f32)
    (h : @fn facts Ideal _ x gates wg wu wd g b = fun _ => 1#1) (i : S65536x16.Idx) : (0 : EReal) ≤ gates i := by
  have hi : Ideal.cmp .oge (gates i) (Ideal.ofBits .f32 0x00000000#32) = 1#1 := congrFun h i
  rw [Ideal.ofBits_zero_f32] at hi
  by_contra hn
  rw [Ideal.cmp, decide_eq_false hn] at hi
  exact absurd hi (by decide)

end Cert.Pre_gates_nonneg

end
-- ==== Proof.ProjMath.lean ====
/-
  A token's projections, over the extended reals: the layer norm's image, its root-mean-square norms, and the rotated lanes.
-/
module

public import proofs.«01_k».proof.Proof.MoeMath

@[expose] public section

noncomputable section

namespace Cert.Proof.Proj

open Idealize.ShloMosaic

/-- A row's root-mean-square norm at one place; `d` is the row's length as a word. -/
def rms {n : ℕ} (d : BitVec 32) (h g : Fin n → EReal) (j : Fin n) : EReal :=
  h j * Ideal.rsqrt (Ideal.div (∑ k, h k * h k) (Ideal.ofBits .f32 d) + Ideal.ofBits .f32 0x358637BD#32) * g j

/-- A head's 128 lanes: 64 of content, two halves of 16 rotary ones, 32 of padding. -/
def lanes {α : Type} (a : Fin 64 → α) (r₁ r₂ : Fin 16 → α) (z : α) (l : Fin 128) : α :=
  if h : l.val < 64 then a ⟨l.val, h⟩
  else if h' : l.val < 80 then r₁ ⟨l.val - 64, by omega⟩
  else if h'' : l.val < 96 then r₂ ⟨l.val - 80, by omega⟩
  else z

/-- Every lane is one of the four kinds. -/
theorem lane_cases {P : Fin 128 → Prop} (ha : ∀ i : Fin 64, P ⟨i.val, by omega⟩)
    (h₁ : ∀ i : Fin 16, P ⟨64 + i.val, by omega⟩) (h₂ : ∀ i : Fin 16, P ⟨64 + (16 + i.val), by omega⟩)
    (hz : ∀ i : Fin 32, P ⟨64 + (32 + i.val), by omega⟩) (l : Fin 128) : P l := by
  rcases lt_or_ge l.val 64 with h | h
  · exact ha ⟨l.val, h⟩
  rcases lt_or_ge l.val 80 with h' | h'
  · have := h₁ ⟨l.val - 64, by omega⟩
    rwa [show (⟨64 + (l.val - 64), by omega⟩ : Fin 128) = l from Fin.ext (by simp only; omega)] at this
  rcases lt_or_ge l.val 96 with h'' | h''
  · have := h₂ ⟨l.val - 80, by omega⟩
    rwa [show (⟨64 + (16 + (l.val - 80)), by omega⟩ : Fin 128) = l from Fin.ext (by simp only; omega)] at this
  · have := hz ⟨l.val - 96, by omega⟩
    rwa [show (⟨64 + (32 + (l.val - 96)), by omega⟩ : Fin 128) = l from Fin.ext (by simp only; omega)] at this

variable {α : Type} (a : Fin 64 → α) (r₁ r₂ : Fin 16 → α) (z : α)

theorem lanes_a (i : Fin 64) : lanes a r₁ r₂ z ⟨i.val, by omega⟩ = a i := by
  unfold lanes; rw [dif_pos i.isLt]

theorem lanes_1 (i : Fin 16) : lanes a r₁ r₂ z ⟨64 + i.val, by omega⟩ = r₁ i := by
  unfold lanes
  rw [dif_neg (by simp only; omega), dif_pos (by simp only; omega)]
  exact congrArg r₁ (Fin.ext (by simp only; omega))

theorem lanes_2 (i : Fin 16) : lanes a r₁ r₂ z ⟨64 + (16 + i.val), by omega⟩ = r₂ i := by
  unfold lanes
  rw [dif_neg (by simp only; omega), dif_neg (by simp only; omega), dif_pos (by simp only; omega)]
  exact congrArg r₂ (Fin.ext (by simp only; omega))

theorem lanes_z (i : Fin 32) : lanes a r₁ r₂ z ⟨64 + (32 + i.val), by omega⟩ = z := by
  unfold lanes
  rw [dif_neg (by simp only; omega), dif_neg (by simp only; omega), dif_neg (by simp only; omega)]

/-- A head's lanes times the cosines, and their partners — 16 lanes on below lane 80, 16 lanes back from there — times the sines. -/
def turned (t C S : Fin 128 → EReal) (l : Fin 128) : EReal :=
  t l * C l + (if l.val < 80 then t ⟨(l.val + 16) % 128, by omega⟩ else t ⟨(l.val + 112) % 128, by omega⟩) * S l

/-- With the tables laid out by lane, that is the rotation of the rotary lanes, and nothing else changes. -/
theorem turned_eq (t C S : Fin 128 → EReal) (c s : Fin 16 → EReal) (hC : ∀ l, C l = lanes (fun _ => 1) c c 1 l)
    (hS : ∀ l, S l = lanes (fun _ => 0) (fun i => -s i) s 0 l) (hz : ∀ i : Fin 32, t ⟨64 + (32 + i.val), by omega⟩ = 0)
    (l : Fin 128) :
    turned t C S l = lanes (fun i => t ⟨i.val, by omega⟩)
      (fun i => t ⟨64 + i.val, by omega⟩ * c i - t ⟨64 + (16 + i.val), by omega⟩ * s i)
      (fun i => t ⟨64 + i.val, by omega⟩ * s i + t ⟨64 + (16 + i.val), by omega⟩ * c i) 0 l := by
  unfold turned
  rw [hC, hS]
  induction l using lane_cases with
  | ha i => rw [lanes_a, lanes_a, lanes_a, mul_one, mul_zero, add_zero]
  | h₁ i =>
    rw [lanes_1, lanes_1, lanes_1, if_pos (by simp only; omega), mul_neg, sub_eq_add_neg]
    exact congrArg (fun j => _ + -(t j * s i)) (Fin.ext (by simp only; omega))
  | h₂ i =>
    rw [lanes_2, lanes_2, lanes_2, if_neg (by simp only; omega), add_comm]
    exact congrArg (fun j => t j * s i + _) (Fin.ext (by simp only; omega))
  | hz i => rw [lanes_z, lanes_z, lanes_z, mul_one, mul_zero, add_zero, hz]

/-- The same of lanes that are laid out so. -/
theorem turned_lanes (t C S : Fin 128 → EReal) (c s : Fin 16 → EReal) (a : Fin 64 → EReal) (r₁ r₂ : Fin 16 → EReal)
    (hC : ∀ l, C l = lanes (fun _ => 1) c c 1 l) (hS : ∀ l, S l = lanes (fun _ => 0) (fun i => -s i) s 0 l)
    (ht : ∀ l, t l = lanes a r₁ r₂ 0 l) (l : Fin 128) :
    turned t C S l = lanes a (fun i => r₁ i * c i - r₂ i * s i) (fun i => r₁ i * s i + r₂ i * c i) 0 l := by
  rw [turned_eq t C S c s hC hS (fun i => (ht _).trans (lanes_z ..)) l]
  congr 1
  · exact funext fun i => (ht _).trans (lanes_a ..)
  · exact funext fun i => by rw [ht, ht, lanes_1, lanes_2]
  · exact funext fun i => by rw [ht, ht, lanes_1, lanes_2]

theorem lanes_mul (a : Fin 64 → EReal) (r₁ r₂ : Fin 16 → EReal) (x : EReal) (l : Fin 128) :
    lanes a r₁ r₂ 0 l * x = lanes (fun i => a i * x) (fun i => r₁ i * x) (fun i => r₂ i * x) 0 l := by
  unfold lanes
  split
  · rfl
  split
  · rfl
  split
  · rfl
  · exact zero_mul x

/-- Content lanes and rotary lanes, put together. -/
theorem lanes_add (a : Fin 64 → EReal) (r₁ r₂ : Fin 16 → EReal) (l : Fin 128) :
    (if h : l.val < 64 then a ⟨l.val, h⟩ else 0) + lanes (fun _ => 0) r₁ r₂ 0 l = lanes a r₁ r₂ 0 l := by
  unfold lanes
  split
  · exact add_zero _
  · exact zero_add _

end Cert.Proof.Proj

end
-- ==== Proof.ProjBody.lean ====
/-
  What the projection kernel's body computes, at an index.
-/
module

public import proofs.«01_k».proof.Proof.ProjMath
public import proofs.«01_k».proof.Proof.Gen.Kernel3Ideal.Frame
public import proofs.«01_k».proof.Proof.Gen.Kernel3Ideal.Value
public import Idealize.ShloMosaic.Lib.Pipeline.ValueKit

@[expose] public section

set_option maxRecDepth 16384

noncomputable section

namespace Cert.Proof.Proj

open Cert.Kernel3Ideal Cert.Kernel3Ideal.Gen Cert.Proof.Moe
open Idealize.ShloMosaic Idealize.ShloMosaic.TcCoe Idealize.SL.Sem

theorem pay2_apply (x : FVec Ideal S1x512x1024 .f32) (g b : FVec Ideal S1x1024 .f32) (w : FVec Ideal S1024x1280 .bf16)
    (r : Fin 512) (j : Fin 1280) :
    k0_pay2 (F := Ideal) x g b w (ix2 r j)
      = ∑ k : Fin 1024, normed (fun k : Fin 1024 => x (ix3 0 r k)) (g (ix2 0 k)) (b (ix2 0 k)) k * w (ix2 k j) := by
  pointwise [k0_pay2]
  rfl

theorem pay6_apply (v : FVec Ideal S512x384 .f32) (g : FVec Ideal S1x384 .f32) (w : FVec Ideal S384x1024 .bf16)
    (r : Fin 512) (j : Fin 1024) :
    k0_pay6 v g w (ix2 r j)
      = ∑ k : Fin 384, rms 0x43C00000#32 (fun k : Fin 384 => v (ix2 r k)) (fun k => g (ix2 0 k)) k * w (ix2 k j) := by
  pointwise [k0_pay6]
  rfl

theorem pay8_apply (v : FVec Ideal S512x1280 .f32) (g : FVec Ideal S1x256 .f32) (w : FVec Ideal S256x1024 .bf16)
    (r : Fin 512) (j : Fin 1024) :
    k0_pay8 v g w (ix2 r j)
      = ∑ k : Fin 256, rms 0x43800000#32 (fun k : Fin 256 => v (ix2 r ⟨896 + k.val, by omega⟩)) (fun k => g (ix2 0 k)) k
          * w (ix2 k j) := by
  pointwise [k0_pay8, k0_pay7]
  rfl

theorem pay9_apply (v : FVec Ideal S512x1280 .f32) (g : FVec Ideal S1x256 .f32) (w : FVec Ideal S256x1024 .bf16)
    (r : Fin 512) (j : Fin 1024) :
    k0_pay9 v g w (ix2 r j)
      = ∑ k : Fin 256, rms 0x43800000#32 (fun k : Fin 256 => v (ix2 r ⟨896 + k.val, by omega⟩)) (fun k => g (ix2 0 k)) k
          * w (ix2 k j) := by
  pointwise [k0_pay9, k0_pay7]
  rfl

/-- The mask chooses its first operand below lane 80. -/
theorem pay12_select (r : Fin 512) (l : Fin 128) (a b : EReal) :
    Scalar.select (k0_pay12 (ix2 r l)) a b = if l.val < 80 then a else b := by
  pointwise [k0_pay12]
  have h : ∀ l : Fin 128, IntOp.cmpi .slt (BitVec.ofNat 32 l.val) 80#32 = if l.val < 80 then 1#1 else 0#1 := by
    decide +kernel
  rw [h l]
  split <;> rfl

theorem pay14_apply (r : Fin 512) (l : Fin 128) : k0_pay14 (F := Ideal) (ix2 r l) = if l.val < 64 then 0 else 1 := by
  pointwise [k0_pay14]
  have h : ∀ l : Fin 128, IntOp.cmpi .sge (BitVec.ofNat 32 l.val) 64#32 = if l.val < 64 then 0#1 else 1#1 := by
    decide +kernel
  rw [h l]
  split <;> rfl

theorem pay13_apply (v : FVec Ideal S512x1280 .f32) (C S : FVec Ideal S512x128 .f32) (r : Fin 512) (l : Fin 128) :
    k0_pay13 v C S (ix2 r l)
      = turned (fun l => v (ix2 r ⟨1152 + l.val, by omega⟩)) (fun l => C (ix2 r l)) (fun l => S (ix2 r l)) l := by
  pointwise [k0_pay13, k0_pay11, pay12_select, turned]
  split <;> rfl

variable (x0 : FVec Ideal S1x512x1024 .f32) (x1 x2 : FVec Ideal S1x1024 .f32) (x3 : FVec Ideal S1024x1280 .bf16)
  (x4 : FVec Ideal S1x384 .f32) (x5 : FVec Ideal S384x1024 .bf16) (x6 : FVec Ideal S1x256 .f32)
  (x7 x8 : FVec Ideal S256x1024 .bf16) (x9 x10 : FVec Ideal S512x128 .f32)

/-- The queries' block: head by head, its lanes turned and scaled. -/
theorem out12_apply (h : Fin 8) (r : Fin 512) (l : Fin 128) :
    out0_12 (F := Ideal) x0 x1 x2 x3 x4 x5 x6 x7 x8 x9 x10 (ix4 0 h r l)
      = turned (fun l => k0_pay45 (F := Ideal) x0 x1 x2 x3 x4 x5 x6 x7 x8 x9 x10 (ix2 r ⟨h.val * 128 + l.val, by omega⟩))
          (fun l => x9 (ix2 r l)) (fun l => x10 (ix2 r l)) l * Ideal.ofBits .f32 0x3DD105EC#32 := by
  unfold out0_12
  generalize k0_pay45 (F := Ideal) x0 x1 x2 x3 x4 x5 x6 x7 x8 x9 x10 = T
  canon_tiles x hx
  all_goals
    change h.val = _ at hx1
    obtain rfl : r = x 2 := Fin.ext hx2
    obtain rfl : l = x 3 := Fin.ext hx3
    pointwise [k0_pay15, k0_pay19, k0_pay22, k0_pay23, k0_pay26, k0_pay30, k0_pay33, k0_pay34, k0_pay37, k0_pay38, k0_pay41, k0_pay48, k0_pay49, k0_pay50, k0_pay10, k0_pay11, pay12_select, turned]
    blk_point []

/-- The keys' block: head by head, its content lanes and the shared rotary ones. -/
theorem out13_apply (h : Fin 8) (r : Fin 512) (l : Fin 128) :
    out0_13 (F := Ideal) x0 x1 x2 x3 x4 x5 x6 x7 x8 x9 x10 (ix4 0 h r l)
      = k0_pay46 (F := Ideal) x0 x1 x2 x3 x4 x5 x6 x7 x8 x9 x10 (ix2 r ⟨h.val * 128 + l.val, by omega⟩)
        + k0_pay51 (F := Ideal) x0 x1 x2 x3 x4 x5 x6 x7 x8 x9 x10 (ix2 r l) := by
  unfold out0_13 k0_pay51
  generalize k0_pay46 (F := Ideal) x0 x1 x2 x3 x4 x5 x6 x7 x8 x9 x10 = T
  canon_tiles x hx
  all_goals
    change h.val = _ at hx1
    obtain rfl : r = x 2 := Fin.ext hx2
    obtain rfl : l = x 3 := Fin.ext hx3
    pointwise [k0_pay16, k0_pay20, k0_pay24, k0_pay27, k0_pay28, k0_pay31, k0_pay35, k0_pay39, k0_pay42]
    blk_point []

/-- The values' block: head by head, its lanes and a tail of ones. -/
theorem out14_apply (h : Fin 8) (r : Fin 512) (l : Fin 128) :
    out0_14 (F := Ideal) x0 x1 x2 x3 x4 x5 x6 x7 x8 x9 x10 (ix4 0 h r l)
      = k0_pay47 (F := Ideal) x0 x1 x2 x3 x4 x5 x6 x7 x8 x9 x10 (ix2 r ⟨h.val * 128 + l.val, by omega⟩)
        + if l.val < 64 then 0 else 1 := by
  unfold out0_14
  generalize k0_pay47 (F := Ideal) x0 x1 x2 x3 x4 x5 x6 x7 x8 x9 x10 = T
  canon_tiles x hx
  all_goals
    change h.val = _ at hx1
    obtain rfl : r = x 2 := Fin.ext hx2
    obtain rfl : l = x 3 := Fin.ext hx3
    pointwise [k0_pay17, k0_pay18, k0_pay21, k0_pay25, k0_pay29, k0_pay32, k0_pay36, k0_pay40, k0_pay43, k0_pay1, k0_pay52, pay14_apply]
    blk_point []

/-- The first block: the input projection's first 512 columns. -/
theorem out11_apply (r : Fin 512) (l : Fin 512) :
    out0_11 (F := Ideal) x0 x1 x2 x3 x4 x5 x6 x7 x8 x9 x10 (ix3 0 r l)
      = k0_pay44 (F := Ideal) x0 x1 x2 x3 x4 x5 x6 x7 x8 x9 x10 (ix2 r ⟨l.val, by omega⟩) := by
  unfold out0_11 k0_pay44
  canon_tiles x hx
  obtain rfl : r = x 1 := Fin.ext hx1
  obtain rfl : l = x 2 := Fin.ext hx2
  pointwise [k0_pay3]

/-! ## The values the blocks are made of, on the blocks read -/

theorem v44_apply (r : Fin 512) (j : Fin 1280) :
    k0_pay44 (F := Ideal) x0 x1 x2 x3 x4 x5 x6 x7 x8 x9 x10 (ix2 r j)
      = ∑ k : Fin 1024, normed (fun k : Fin 1024 => x0 (ix3 0 r k)) (x1 (ix2 0 k)) (x2 (ix2 0 k)) k * x3 (ix2 k j) := by
  unfold k0_pay44
  refine (pay2_apply _ _ _ _ r j).trans ?_
  pointwise

theorem v45_apply (r : Fin 512) (j : Fin 1024) :
    k0_pay45 (F := Ideal) x0 x1 x2 x3 x4 x5 x6 x7 x8 x9 x10 (ix2 r j)
      = ∑ k : Fin 384, rms 0x43C00000#32 (fun k : Fin 384 => k0_pay44 (F := Ideal) x0 x1 x2 x3 x4 x5 x6 x7 x8 x9 x10 (ix2 r ⟨512 + k.val, by omega⟩))
          (fun k => x4 (ix2 0 k)) k * x5 (ix2 k j) := by
  unfold k0_pay45 k0_pay44
  refine (pay6_apply _ _ _ r j).trans ?_
  pointwise [k0_pay4, k0_pay5]

theorem v46_apply (r : Fin 512) (j : Fin 1024) :
    k0_pay46 (F := Ideal) x0 x1 x2 x3 x4 x5 x6 x7 x8 x9 x10 (ix2 r j)
      = ∑ k : Fin 256, rms 0x43800000#32 (fun k : Fin 256 => k0_pay44 (F := Ideal) x0 x1 x2 x3 x4 x5 x6 x7 x8 x9 x10 (ix2 r ⟨896 + k.val, by omega⟩))
          (fun k => x6 (ix2 0 k)) k * x7 (ix2 k j) := by
  unfold k0_pay46
  refine (pay8_apply _ _ _ r j).trans ?_
  pointwise

theorem v47_apply (r : Fin 512) (j : Fin 1024) :
    k0_pay47 (F := Ideal) x0 x1 x2 x3 x4 x5 x6 x7 x8 x9 x10 (ix2 r j)
      = ∑ k : Fin 256, rms 0x43800000#32 (fun k : Fin 256 => k0_pay44 (F := Ideal) x0 x1 x2 x3 x4 x5 x6 x7 x8 x9 x10 (ix2 r ⟨896 + k.val, by omega⟩))
          (fun k => x6 (ix2 0 k)) k * x8 (ix2 k j) := by
  unfold k0_pay47
  refine (pay9_apply _ _ _ r j).trans ?_
  pointwise

theorem v51_apply (r : Fin 512) (l : Fin 128) :
    k0_pay51 (F := Ideal) x0 x1 x2 x3 x4 x5 x6 x7 x8 x9 x10 (ix2 r l)
      = turned (fun l => k0_pay44 (F := Ideal) x0 x1 x2 x3 x4 x5 x6 x7 x8 x9 x10 (ix2 r ⟨1152 + l.val, by omega⟩))
          (fun l => x9 (ix2 r l)) (fun l => x10 (ix2 r l)) l := by
  unfold k0_pay51
  refine (pay13_apply _ _ _ r l).trans ?_
  pointwise [k0_pay48, k0_pay10]

end Cert.Proof.Proj

end
-- ==== Proof.ProjRef.lean ====
/-
  The reference's projections at an index.
-/
module

public import proofs.«01_k».proof.Proof.ProjMath
public import proofs.«01_k».proof.Proof.Gen.Reference3Ideal.Run

@[expose] public section

set_option maxRecDepth 16384

noncomputable section

open Idealize.ShloMosaic Idealize.ShloMosaic.TcCoe Idealize.SL.Sem

namespace Cert.Reference3Ideal.Proj

open Cert.Reference3Ideal Cert.Reference3Ideal.Gen Cert.Proof.Moe Cert.Proof.Proj

variable (x : FVec Ideal S16x4096x1024 .f32) (g b : FVec Ideal S1024 .f32) (w : FVec Ideal S1024x1184 .f32)
  (gq : FVec Ideal S384 .f32) (wq : FVec Ideal S384x768 .f32) (gkv : FVec Ideal S256 .f32) (wkv : FVec Ideal S256x1024 .f32)

/-- The rows' means, one column. -/
def MEAN (h : FVec Ideal S16x4096x1024 .f32) : FVec Ideal S16x4096x1 .f32 :=
  Host.divf (broadcastInDim S16x4096x1 ![0, 1] bcast_S16x4096_S16x4096x1_0_1 (Host.reduceAdd h (constant S_ .f32 0x00000000#32) reducesTo_S16x4096x1024_S16x4096_d2 h_S_)) (broadcastInDim S16x4096x1 ![] bcast_S_S16x4096x1 (constant S_ .f32 0x44800000#32))

def CENTRED : FVec Ideal S16x4096x1024 .f32 :=
  subf x (broadcastInDim S16x4096x1024 ![0, 1, 2] bcast_S16x4096x1_S16x4096x1024_0_1_2 (MEAN x))

/-- The tokens' layer norm. -/
def NORM : FVec Ideal S16x4096x1024 .f32 :=
  addf (mulf (mulf (CENTRED x) (broadcastInDim S16x4096x1024 ![0, 1, 2] bcast_S16x4096x1_S16x4096x1024_0_1_2 (Host.rsqrt (addf (MEAN (mulf (CENTRED x) (CENTRED x))) (broadcastInDim S16x4096x1 ![] bcast_S_S16x4096x1 (constant S_ .f32 0x3727C5AC#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S1x1x1024_S16x4096x1024_0_1_2 (broadcastInDim S1x1x1024 ![2] bcast_S1024_S1x1x1024_2 b))

/-- The input projection. -/
def PROJ : FVec Ideal S16x4096x1184 .f32 :=
  Host.dotGeneral dot_S16x4096x1024_S1024x1184_S16x4096x1184_2_0_01_1_n_n none (NORM x g b) w

/-- The queries' part, normed. -/
def RMSQ (p : FVec Ideal S16x4096x384 .f32) : FVec Ideal S16x4096x384 .f32 :=
  mulf (mulf p (broadcastInDim S16x4096x384 ![0, 1, 2] bcast_S16x4096x1_S16x4096x384_0_1_2 (Host.rsqrt (addf (Host.divf (broadcastInDim S16x4096x1 ![0, 1] bcast_S16x4096_S16x4096x1_0_1 (Host.reduceAdd (mulf p p) (constant S_ .f32 0x00000000#32) reducesTo_S16x4096x384_S16x4096_d2 h_S_)) (broadcastInDim S16x4096x1 ![] bcast_S_S16x4096x1 (constant S_ .f32 0x43C00000#32))) (broadcastInDim S16x4096x1 ![] bcast_S_S16x4096x1 (constant S_ .f32 0x358637BD#32)))))) (broadcastInDim S16x4096x384 ![0, 1, 2] bcast_S1x1x384_S16x4096x384_0_1_2 (broadcastInDim S1x1x384 ![2] bcast_S384_S1x1x384_2 gq))

/-- The keys' and values' part, normed. -/
def RMSKV (p : FVec Ideal S16x4096x256 .f32) : FVec Ideal S16x4096x256 .f32 :=
  mulf (mulf p (broadcastInDim S16x4096x256 ![0, 1, 2] bcast_S16x4096x1_S16x4096x256_0_1_2 (Host.rsqrt (addf (Host.divf (broadcastInDim S16x4096x1 ![0, 1] bcast_S16x4096_S16x4096x1_0_1 (Host.reduceAdd (mulf p p) (constant S_ .f32 0x00000000#32) reducesTo_S16x4096x256_S16x4096_d2 h_S_)) (broadcastInDim S16x4096x1 ![] bcast_S_S16x4096x1 (constant S_ .f32 0x43800000#32))) (broadcastInDim S16x4096x1 ![] bcast_S_S16x4096x1 (constant S_ .f32 0x358637BD#32)))))) (broadcastInDim S16x4096x256 ![0, 1, 2] bcast_S1x1x256_S16x4096x256_0_1_2 (broadcastInDim S1x1x256 ![2] bcast_S256_S1x1x256_2 gkv))

/-- The heads of the queries. -/
def QALL (p : FVec Ideal S16x4096x1184 .f32) : FVec Ideal S16x4096x8x96 .f32 :=
  shapeCast S16x4096x8x96 (Host.dotGeneral dot_S16x4096x384_S384x768_S16x4096x768_2_0_01_1_n_n none (RMSQ gq (extractStridedSlice S16x4096x384 ![0, 0, 512] p slices_S16x4096x1184_S16x4096x384_0_0_512)) wq) shapeCasts_S16x4096x768_S16x4096x8x96

/-- The heads of the keys and values. -/
def KVALL (p : FVec Ideal S16x4096x1184 .f32) : FVec Ideal S16x4096x8x128 .f32 :=
  shapeCast S16x4096x8x128 (Host.dotGeneral dot_S16x4096x256_S256x1024_S16x4096x1024_2_0_01_1_n_n none (RMSKV gkv (extractStridedSlice S16x4096x256 ![0, 0, 896] p slices_S16x4096x1184_S16x4096x256_0_0_896)) wkv) shapeCasts_S16x4096x1024_S16x4096x8x128

/-- The angle of a position and a rotary pair. -/
def ANGLE : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

def COS : FVec Ideal S1x4096x1x16 .f32 := broadcastInDim S1x4096x1x16 ![1, 3] bcast_S4096x16_S1x4096x1x16_1_3 (Host.cos ANGLE)

def SIN : FVec Ideal S1x4096x1x16 .f32 := broadcastInDim S1x4096x1x16 ![1, 3] bcast_S4096x16_S1x4096x1x16_1_3 (Host.sin ANGLE)

/-- The queries' rotary lanes, rotated. -/
def ROTQ (q : FVec Ideal S16x4096x8x32 .f32) : FVec Ideal S16x4096x8x32 .f32 :=
  concatenate S16x4096x8x32 3 [
    ⟨S16x4096x8x16, subf (mulf (extractStridedSlice S16x4096x8x16 ![0, 0, 0, 0] q slices_S16x4096x8x32_S16x4096x8x16_0_0_0_0) (broadcastInDim S16x4096x8x16 ![0, 1, 2, 3] bcast_S1x4096x1x16_S16x4096x8x16_0_1_2_3 COS)) (mulf (extractStridedSlice S16x4096x8x16 ![0, 0, 0, 16] q slices_S16x4096x8x32_S16x4096x8x16_0_0_0_16) (broadcastInDim S16x4096x8x16 ![0, 1, 2, 3] bcast_S1x4096x1x16_S16x4096x8x16_0_1_2_3 SIN))⟩,
    ⟨S16x4096x8x16, addf (mulf (extractStridedSlice S16x4096x8x16 ![0, 0, 0, 0] q slices_S16x4096x8x32_S16x4096x8x16_0_0_0_0) (broadcastInDim S16x4096x8x16 ![0, 1, 2, 3] bcast_S1x4096x1x16_S16x4096x8x16_0_1_2_3 SIN)) (mulf (extractStridedSlice S16x4096x8x16 ![0, 0, 0, 16] q slices_S16x4096x8x32_S16x4096x8x16_0_0_0_16) (broadcastInDim S16x4096x8x16 ![0, 1, 2, 3] bcast_S1x4096x1x16_S16x4096x8x16_0_1_2_3 COS))⟩] concatenates_S16x4096x8x16_S16x4096x8x16_S16x4096x8x32_d3

/-- The shared key's rotary lanes, rotated. -/
def ROTK (k : FVec Ideal S16x4096x1x32 .f32) : FVec Ideal S16x4096x1x32 .f32 :=
  concatenate S16x4096x1x32 3 [
    ⟨S16x4096x1x16, subf (mulf (extractStridedSlice S16x4096x1x16 ![0, 0, 0, 0] k slices_S16x4096x1x32_S16x4096x1x16_0_0_0_0) (broadcastInDim S16x4096x1x16 ![0, 1, 2, 3] bcast_S1x4096x1x16_S16x4096x1x16_0_1_2_3 COS)) (mulf (extractStridedSlice S16x4096x1x16 ![0, 0, 0, 16] k slices_S16x4096x1x32_S16x4096x1x16_0_0_0_16) (broadcastInDim S16x4096x1x16 ![0, 1, 2, 3] bcast_S1x4096x1x16_S16x4096x1x16_0_1_2_3 SIN))⟩,
    ⟨S16x4096x1x16, addf (mulf (extractStridedSlice S16x4096x1x16 ![0, 0, 0, 0] k slices_S16x4096x1x32_S16x4096x1x16_0_0_0_0) (broadcastInDim S16x4096x1x16 ![0, 1, 2, 3] bcast_S1x4096x1x16_S16x4096x1x16_0_1_2_3 SIN)) (mulf (extractStridedSlice S16x4096x1x16 ![0, 0, 0, 16] k slices_S16x4096x1x32_S16x4096x1x16_0_0_0_16) (broadcastInDim S16x4096x1x16 ![0, 1, 2, 3] bcast_S1x4096x1x16_S16x4096x1x16_0_1_2_3 COS))⟩] concatenates_S16x4096x1x16_S16x4096x1x16_S16x4096x1x32_d3

def UOUT (p : FVec Ideal S16x4096x1184 .f32) : FVec Ideal S16x4096x512 .f32 :=
  extractStridedSlice S16x4096x512 ![0, 0, 0] p slices_S16x4096x1184_S16x4096x512_0_0_0

def QOUT (q : FVec Ideal S16x4096x8x96 .f32) : FVec Ideal S16x8x4096x128 .bf16 :=
  truncf .bf16 (transpose S16x8x4096x128 [0, 2, 1, 3] (concatenate S16x4096x8x128 3 [
    ⟨S16x4096x8x64, mulf (extractStridedSlice S16x4096x8x64 ![0, 0, 0, 0] q slices_S16x4096x8x96_S16x4096x8x64_0_0_0_0) (broadcastInDim S16x4096x8x64 ![] bcast_S_S16x4096x8x64 (constant S_ .f32 0x3DD105EC#32))⟩,
    ⟨S16x4096x8x32, mulf (ROTQ (extractStridedSlice S16x4096x8x32 ![0, 0, 0, 64] q slices_S16x4096x8x96_S16x4096x8x32_0_0_0_64)) (broadcastInDim S16x4096x8x32 ![] bcast_S_S16x4096x8x32 (constant S_ .f32 0x3DD105EC#32))⟩,
    ⟨S16x4096x8x32, broadcastInDim S16x4096x8x32 ![] bcast_S_S16x4096x8x32 (constant S_ .f32 0x00000000#32)⟩] concatenates_S16x4096x8x64_S16x4096x8x32_S16x4096x8x32_S16x4096x8x128_d3) transposes_S16x4096x8x128_S16x8x4096x128_0_2_1_3) bitsLt_bf16_f32

def KOUT (p : FVec Ideal S16x4096x1184 .f32) (kv : FVec Ideal S16x4096x8x128 .f32) : FVec Ideal S16x8x4096x128 .bf16 :=
  truncf .bf16 (transpose S16x8x4096x128 [0, 2, 1, 3] (concatenate S16x4096x8x128 3 [
    ⟨S16x4096x8x64, extractStridedSlice S16x4096x8x64 ![0, 0, 0, 0] kv slices_S16x4096x8x128_S16x4096x8x64_0_0_0_0⟩,
    ⟨S16x4096x8x32, broadcastInDim S16x4096x8x32 ![0, 1, 2, 3] bcast_S16x4096x1x32_S16x4096x8x32_0_1_2_3 (ROTK (broadcastInDim S16x4096x1x32 ![0, 1, 3] bcast_S16x4096x32_S16x4096x1x32_0_1_3 (extractStridedSlice S16x4096x32 ![0, 0, 1152] p slices_S16x4096x1184_S16x4096x32_0_0_1152)))⟩,
    ⟨S16x4096x8x32, broadcastInDim S16x4096x8x32 ![] bcast_S_S16x4096x8x32 (constant S_ .f32 0x00000000#32)⟩] concatenates_S16x4096x8x64_S16x4096x8x32_S16x4096x8x32_S16x4096x8x128_d3) transposes_S16x4096x8x128_S16x8x4096x128_0_2_1_3) bitsLt_bf16_f32

def VOUT (kv : FVec Ideal S16x4096x8x128 .f32) : FVec Ideal S16x8x4096x128 .bf16 :=
  truncf .bf16 (transpose S16x8x4096x128 [0, 2, 1, 3] (concatenate S16x4096x8x128 3 [
    ⟨S16x4096x8x64, extractStridedSlice S16x4096x8x64 ![0, 0, 0, 64] kv slices_S16x4096x8x128_S16x4096x8x64_0_0_0_64⟩,
    ⟨S16x4096x8x64, broadcastInDim S16x4096x8x64 ![] bcast_S_S16x4096x8x64 (constant S_ .f32 0x3F800000#32)⟩] concatenates_S16x4096x8x64_S16x4096x8x64_S16x4096x8x128_d3) transposes_S16x4096x8x128_S16x8x4096x128_0_2_1_3) bitsLt_bf16_f32

theorem mean_apply (h : FVec Ideal S16x4096x1024 .f32) (n : Fin 16) (s : Fin 4096) :
    MEAN h (ix3 n s 0) = mean (fun k : Fin 1024 => h (ix3 n s k)) := by
  pointwise [MEAN]
  rfl

theorem centred_apply (n : Fin 16) (s : Fin 4096) (k : Fin 1024) :
    CENTRED x (ix3 n s k) = x (ix3 n s k) - mean (fun k : Fin 1024 => x (ix3 n s k)) := by
  pointwise [CENTRED, mean_apply]

theorem norm_apply (n : Fin 16) (s : Fin 4096) (k : Fin 1024) :
    NORM x g b (ix3 n s k) = normed (fun k : Fin 1024 => x (ix3 n s k)) (g (ix1 k)) (b (ix1 k)) k := by
  pointwise [NORM, mean_apply, centred_apply]
  rfl

theorem proj_apply (n : Fin 16) (s : Fin 4096) (j : Fin 1184) :
    PROJ x g b w (ix3 n s j)
      = ∑ k : Fin 1024, normed (fun k : Fin 1024 => x (ix3 n s k)) (g (ix1 k)) (b (ix1 k)) k * w (ix2 k j) := by
  pointwise [PROJ, norm_apply]

theorem rmsq_apply (p : FVec Ideal S16x4096x384 .f32) (n : Fin 16) (s : Fin 4096) (k : Fin 384) :
    RMSQ gq p (ix3 n s k) = rms 0x43C00000#32 (fun k : Fin 384 => p (ix3 n s k)) (fun k => gq (ix1 k)) k := by
  pointwise [RMSQ]
  rfl

theorem rmskv_apply (p : FVec Ideal S16x4096x256 .f32) (n : Fin 16) (s : Fin 4096) (k : Fin 256) :
    RMSKV gkv p (ix3 n s k) = rms 0x43800000#32 (fun k : Fin 256 => p (ix3 n s k)) (fun k => gkv (ix1 k)) k := by
  pointwise [RMSKV]
  rfl

theorem qall_apply (p : FVec Ideal S16x4096x1184 .f32) (n : Fin 16) (s : Fin 4096) (h : Fin 8) (l : Fin 96) :
    QALL gq wq p (ix4 n s h l)
      = ∑ k : Fin 384, rms 0x43C00000#32 (fun k : Fin 384 => p (ix3 n s ⟨512 + k.val, by omega⟩)) (fun k => gq (ix1 k)) k
          * wq (ix2 k ⟨h.val * 96 + l.val, by omega⟩) := by
  pointwise [QALL, rmsq_apply]

theorem kvall_apply (p : FVec Ideal S16x4096x1184 .f32) (n : Fin 16) (s : Fin 4096) (h : Fin 8) (l : Fin 128) :
    KVALL gkv wkv p (ix4 n s h l)
      = ∑ k : Fin 256, rms 0x43800000#32 (fun k : Fin 256 => p (ix3 n s ⟨896 + k.val, by omega⟩)) (fun k => gkv (ix1 k)) k
          * wkv (ix2 k ⟨h.val * 128 + l.val, by omega⟩) := by
  pointwise [KVALL, rmskv_apply]

theorem cos_apply (s : Fin 4096) (i : Fin 16) : COS (ix4 0 s 0 i) = Host.cos ANGLE (ix2 s i) := by
  unfold COS
  pointwise

theorem sin_apply (s : Fin 4096) (i : Fin 16) : SIN (ix4 0 s 0 i) = Host.sin ANGLE (ix2 s i) := by
  unfold SIN
  pointwise

/-- The rotary lanes of a head, and the two halves' images. -/
def rot₁ (q : Fin 32 → EReal) (s : Fin 4096) (i : Fin 16) : EReal :=
  q ⟨i.val, by omega⟩ * Host.cos ANGLE (ix2 s i) - q ⟨16 + i.val, by omega⟩ * Host.sin ANGLE (ix2 s i)

def rot₂ (q : Fin 32 → EReal) (s : Fin 4096) (i : Fin 16) : EReal :=
  q ⟨i.val, by omega⟩ * Host.sin ANGLE (ix2 s i) + q ⟨16 + i.val, by omega⟩ * Host.cos ANGLE (ix2 s i)

theorem rotq_1 (q : FVec Ideal S16x4096x8x32 .f32) (n : Fin 16) (s : Fin 4096) (h : Fin 8) (i : Fin 16) :
    ROTQ q (ix4 n s h ⟨i.val, by omega⟩) = rot₁ (fun l => q (ix4 n s h l)) s i := by
  pointwise [ROTQ, cos_apply, sin_apply]
  rfl

theorem rotq_2 (q : FVec Ideal S16x4096x8x32 .f32) (n : Fin 16) (s : Fin 4096) (h : Fin 8) (i : Fin 16) :
    ROTQ q (ix4 n s h ⟨16 + i.val, by omega⟩) = rot₂ (fun l => q (ix4 n s h l)) s i := by
  pointwise [ROTQ, cos_apply, sin_apply]
  rfl

theorem rotk_1 (k : FVec Ideal S16x4096x1x32 .f32) (n : Fin 16) (s : Fin 4096) (i : Fin 16) :
    ROTK k (ix4 n s 0 ⟨i.val, by omega⟩) = rot₁ (fun l => k (ix4 n s 0 l)) s i := by
  pointwise [ROTK, cos_apply, sin_apply]
  rfl

theorem rotk_2 (k : FVec Ideal S16x4096x1x32 .f32) (n : Fin 16) (s : Fin 4096) (i : Fin 16) :
    ROTK k (ix4 n s 0 ⟨16 + i.val, by omega⟩) = rot₂ (fun l => k (ix4 n s 0 l)) s i := by
  pointwise [ROTK, cos_apply, sin_apply]
  rfl

theorem uout_apply (p : FVec Ideal S16x4096x1184 .f32) (n : Fin 16) (s : Fin 4096) (l : Fin 512) :
    UOUT p (ix3 n s l) = p (ix3 n s ⟨l.val, by omega⟩) := by
  pointwise [UOUT]

theorem qout_apply (q : FVec Ideal S16x4096x8x96 .f32) (n : Fin 16) (h : Fin 8) (s : Fin 4096) (l : Fin 128) :
    QOUT q (ix4 n h s l)
      = lanes (fun i : Fin 64 => q (ix4 n s h ⟨i.val, by omega⟩) * Ideal.ofBits .f32 0x3DD105EC#32)
          (fun i => rot₁ (fun l => q (ix4 n s h ⟨64 + l.val, by omega⟩)) s i * Ideal.ofBits .f32 0x3DD105EC#32)
          (fun i => rot₂ (fun l => q (ix4 n s h ⟨64 + l.val, by omega⟩)) s i * Ideal.ofBits .f32 0x3DD105EC#32) 0 l := by
  induction l using lane_cases with
  | ha i => rw [lanes_a]; pointwise [QOUT]
  | h₁ i => rw [lanes_1]; pointwise [QOUT, rotq_1]; rw [dif_pos (by omega)]
  | h₂ i => rw [lanes_2]; pointwise [QOUT, rotq_2]; rw [dif_pos (by omega)]
  | hz i => rw [lanes_z]; pointwise [QOUT]

theorem kout_apply (p : FVec Ideal S16x4096x1184 .f32) (kv : FVec Ideal S16x4096x8x128 .f32) (n : Fin 16) (h : Fin 8)
    (s : Fin 4096) (l : Fin 128) :
    KOUT p kv (ix4 n h s l)
      = lanes (fun i : Fin 64 => kv (ix4 n s h ⟨i.val, by omega⟩))
          (fun i => rot₁ (fun l => p (ix3 n s ⟨1152 + l.val, by omega⟩)) s i)
          (fun i => rot₂ (fun l => p (ix3 n s ⟨1152 + l.val, by omega⟩)) s i) 0 l := by
  induction l using lane_cases with
  | ha i => rw [lanes_a]; pointwise [KOUT]
  | h₁ i => rw [lanes_1]; pointwise [KOUT, rotk_1]; rw [dif_pos (by omega)]
  | h₂ i => rw [lanes_2]; pointwise [KOUT, rotk_2]; rw [dif_pos (by omega)]
  | hz i => rw [lanes_z]; pointwise [KOUT]

theorem vout_apply (kv : FVec Ideal S16x4096x8x128 .f32) (n : Fin 16) (h : Fin 8) (s : Fin 4096) (l : Fin 128) :
    VOUT kv (ix4 n h s l)
      = if hl : l.val < 64 then kv (ix4 n s h ⟨64 + l.val, by omega⟩) else 1 := by
  pointwise [VOUT]

variable (m : (ℓ : Loc nD τ sig) → Buf (Elt Ideal) ℓ) (c : Dev nD)

/-- The reference's projection of its arguments. -/
abbrev P : FVec Ideal S16x4096x1184 .f32 :=
  PROJ (m ((c.tc : Thread nD τ).loc main_arg0)) (m ((c.tc : Thread nD τ).loc main_arg1)) (m ((c.tc : Thread nD τ).loc main_arg2)) (m ((c.tc : Thread nD τ).loc main_arg3))

theorem q_eq : Value.res_main_v141 m c
    = QOUT (QALL (m ((c.tc : Thread nD τ).loc main_arg4)) (m ((c.tc : Thread nD τ).loc main_arg5)) (P m c)) := by
  unfold Value.res_main_v141 QOUT QALL P PROJ NORM CENTRED MEAN RMSQ ROTQ COS SIN ANGLE
  rfl

theorem k_eq : Value.res_main_v144 m c
    = KOUT (P m c) (KVALL (m ((c.tc : Thread nD τ).loc main_arg6)) (m ((c.tc : Thread nD τ).loc main_arg7)) (P m c)) := by
  unfold Value.res_main_v144 KOUT KVALL P PROJ NORM CENTRED MEAN RMSKV ROTK COS SIN ANGLE
  rfl

theorem v_eq : Value.res_main_v147 m c
    = VOUT (KVALL (m ((c.tc : Thread nD τ).loc main_arg6)) (m ((c.tc : Thread nD τ).loc main_arg7)) (P m c)) := by
  unfold Value.res_main_v147 VOUT KVALL P PROJ NORM CENTRED MEAN RMSKV
  rfl

end Cert.Reference3Ideal.Proj

end
-- ==== Proof.ProjRead.lean ====
/-
  What the projection kernel's windows carry, in terms of the arguments.
-/
module

public import proofs.«01_k».proof.Proof.ProjRef
public import proofs.«01_k».proof.Proof.Gen.Kernel3Ideal.Frame
public import Idealize.ShloMosaic.Lib.Pipeline.ValueKit

@[expose] public section

set_option maxRecDepth 16384

noncomputable section

namespace Cert.Proof.Proj

open Cert.Kernel3Ideal Cert.Kernel3Ideal.Gen
open Idealize.ShloMosaic Idealize.ShloMosaic.TcCoe Idealize.SL.Sem
open Idealize.ShloMosaic.Pipeline (Dat)
open Cert.Reference3Ideal.Proj (ANGLE)

variable (m : (ℓ : Loc nD τ sig) → Buf (Elt Ideal) ℓ) (c : Dev nD)

/-! ## The arguments, and the arrays the launch finds -/

abbrev argX : FVec Ideal S16x4096x1024 .f32 := m (c, Proc.tc.devRef main_arg0)
abbrev argG : FVec Ideal S1024 .f32 := m (c, Proc.tc.devRef main_arg1)
abbrev argB : FVec Ideal S1024 .f32 := m (c, Proc.tc.devRef main_arg2)
abbrev argW : FVec Ideal S1024x1184 .f32 := m (c, Proc.tc.devRef main_arg3)
abbrev argGq : FVec Ideal S384 .f32 := m (c, Proc.tc.devRef main_arg4)
abbrev argWq : FVec Ideal S384x768 .f32 := m (c, Proc.tc.devRef main_arg5)
abbrev argGkv : FVec Ideal S256 .f32 := m (c, Proc.tc.devRef main_arg6)
abbrev argWkv : FVec Ideal S256x1024 .f32 := m (c, Proc.tc.devRef main_arg7)

/-- The input weights, their rotary columns moved to the lanes of a head. -/
def WIN (w : FVec Ideal S1024x1184 .f32) : FVec Ideal S1024x1280 .bf16 :=
  truncf .bf16 (concatenate S1024x1280 1 [
    ⟨S1024x1152, extractStridedSlice S1024x1152 ![0, 0] w slices_S1024x1184_S1024x1152_0_0⟩,
    ⟨S1024x64, broadcastInDim S1024x64 ![] bcast_S_S1024x64 (constant S_ .f32 0x00000000#32)⟩,
    ⟨S1024x32, extractStridedSlice S1024x32 ![0, 1152] w slices_S1024x1184_S1024x32_0_1152⟩,
    ⟨S1024x32, broadcastInDim S1024x32 ![] bcast_S_S1024x32 (constant S_ .f32 0x00000000#32)⟩] concatenates_S1024x1152_S1024x64_S1024x32_S1024x32_S1024x1280_d1) bitsLt_bf16_f32

/-- The queries' weights, every head's columns filled up to 128. -/
def WUQ (w : FVec Ideal S384x768 .f32) : FVec Ideal S384x1024 .bf16 :=
  truncf .bf16 (shapeCast S384x1024 (pad S384x8x128 ![0, 0, 0] ![0, 0, 32] ![0, 0, 0] (shapeCast S384x8x96 w shapeCasts_S384x768_S384x8x96) (sitofp (F := Ideal) .f32 (constantI S_ 32 0#32)) pads_S384x8x96_S384x8x128_000_000_0320 h_S_) shapeCasts_S384x8x128_S384x1024) bitsLt_bf16_f32

/-- Some heads' 64 columns, filled up to 128. -/
def FILL (w : FVec Ideal S256x8x64 .f32) : FVec Ideal S256x1024 .bf16 :=
  truncf .bf16 (shapeCast S256x1024 (pad S256x8x128 ![0, 0, 0] ![0, 0, 64] ![0, 0, 0] w (sitofp (F := Ideal) .f32 (constantI S_ 32 0#32)) pads_S256x8x64_S256x8x128_000_000_0640 h_S_) shapeCasts_S256x8x128_S256x1024) bitsLt_bf16_f32

/-- The keys' weights. -/
def WK (w : FVec Ideal S256x1024 .f32) : FVec Ideal S256x1024 .bf16 :=
  FILL (extractStridedSlice S256x8x64 ![0, 0, 0] (shapeCast S256x8x128 w shapeCasts_S256x1024_S256x8x128) slices_S256x8x128_S256x8x64_0_0_0)

/-- The values' weights. -/
def WV (w : FVec Ideal S256x1024 .f32) : FVec Ideal S256x1024 .bf16 :=
  FILL (extractStridedSlice S256x8x64 ![0, 0, 64] (shapeCast S256x8x128 w shapeCasts_S256x1024_S256x8x128) slices_S256x8x128_S256x8x64_0_0_64)

/-- The cosines by lane. -/
def CTAB : FVec Ideal S4096x128 .f32 :=
  concatenate S4096x128 1 [
    ⟨S4096x64, broadcastInDim S4096x64 ![] bcast_S_S4096x64 (constant S_ .f32 0x3F800000#32)⟩, ⟨S4096x16, Host.cos ANGLE⟩, ⟨S4096x16, Host.cos ANGLE⟩,
    ⟨S4096x32, broadcastInDim S4096x32 ![] bcast_S_S4096x32 (constant S_ .f32 0x3F800000#32)⟩] concatenates_S4096x64_S4096x16_S4096x16_S4096x32_S4096x128_d1

/-- The sines by lane, signed. -/
def STAB : FVec Ideal S4096x128 .f32 :=
  concatenate S4096x128 1 [
    ⟨S4096x64, broadcastInDim S4096x64 ![] bcast_S_S4096x64 (constant S_ .f32 0x00000000#32)⟩, ⟨S4096x16, Host.negf (Host.sin ANGLE)⟩, ⟨S4096x16, Host.sin ANGLE⟩,
    ⟨S4096x32, broadcastInDim S4096x32 ![] bcast_S_S4096x32 (constant S_ .f32 0x00000000#32)⟩] concatenates_S4096x64_S4096x16_S4096x16_S4096x32_S4096x128_d1

theorem g_entry : V m c main_v38 = shapeCast S1x1024 (argG m c) shapeCasts_S1024_S1x1024 := by
  unfold V
  rfl
theorem b_entry : V m c main_v39 = shapeCast S1x1024 (argB m c) shapeCasts_S1024_S1x1024 := by
  unfold V
  rfl
theorem win_entry : V m c main_v40 = WIN (argW m c) := by
  unfold V WIN
  after_results <;> rfl
theorem gq_entry : V m c main_v41 = shapeCast S1x384 (argGq m c) shapeCasts_S384_S1x384 := by
  unfold V
  rfl
theorem wuq_entry : V m c main_v43 = WUQ (argWq m c) := by
  unfold V WUQ
  rfl
theorem gkv_entry : V m c main_v44 = shapeCast S1x256 (argGkv m c) shapeCasts_S256_S1x256 := by
  unfold V
  rfl
theorem wk_entry : V m c main_v46 = WK (argWkv m c) := by
  unfold V WK FILL
  rfl
theorem wv_entry : V m c main_v48 = WV (argWkv m c) := by
  unfold V WV FILL
  rfl
theorem cos_entry : V m c main_v33 = CTAB := by
  unfold V CTAB ANGLE
  after_results <;> rfl
theorem sin_entry : V m c main_v37 = STAB := by
  unfold V STAB ANGLE
  after_results <;> rfl

/-! ## The arrays at an index -/

/-- The word zero, converted. -/
theorem sitofp_zero : (FloatOps.sitofp (F := Ideal) .f32 0#32 : EReal) = 0 := by
  show (((0#32 : BitVec 32).toInt : ℝ) : EReal) = 0
  simp

theorem win_read (w : FVec Ideal S1024x1184 .f32) (k : Fin 1024) (j : Fin 1152) :
    WIN w (ix2 k ⟨j.val, by omega⟩) = w (ix2 k ⟨j.val, by omega⟩) := by
  pointwise [WIN]

theorem win_lanes (w : FVec Ideal S1024x1184 .f32) (k : Fin 1024) (l : Fin 128) :
    WIN w (ix2 k ⟨1152 + l.val, by omega⟩)
      = lanes (fun _ => 0) (fun i => w (ix2 k ⟨1152 + i.val, by omega⟩)) (fun i => w (ix2 k ⟨1152 + (16 + i.val), by omega⟩)) 0 l := by
  induction l using lane_cases with
  | ha i => rw [lanes_a]; pointwise [WIN]
  | h₁ i => rw [lanes_1]; pointwise [WIN]; rw [dif_pos (by omega)]
  | h₂ i => rw [lanes_2]; pointwise [WIN]; rw [dif_pos (by omega)]
  | hz i => rw [lanes_z]; pointwise [WIN]

theorem wuq_lanes (w : FVec Ideal S384x768 .f32) (k : Fin 384) (h : Fin 8) (l : Fin 128) :
    WUQ w (ix2 k ⟨h.val * 128 + l.val, by omega⟩)
      = lanes (fun i => w (ix2 k ⟨h.val * 96 + i.val, by omega⟩)) (fun i => w (ix2 k ⟨h.val * 96 + (64 + i.val), by omega⟩))
          (fun i => w (ix2 k ⟨h.val * 96 + (64 + (16 + i.val)), by omega⟩)) 0 l := by
  induction l using lane_cases with
  | ha i => rw [lanes_a]; pointwise [WUQ]; rw [dif_pos (by omega)]; blk_ext
  | h₁ i => rw [lanes_1]; pointwise [WUQ]; rw [dif_pos (by omega)]; blk_ext
  | h₂ i => rw [lanes_2]; pointwise [WUQ]; rw [dif_pos (by omega)]; blk_ext
  | hz i => rw [lanes_z]; pointwise [WUQ, sitofp_zero]; rw [dif_neg (by omega)]

theorem fill_read (w : FVec Ideal S256x8x64 .f32) (k : Fin 256) (h : Fin 8) (l : Fin 128) :
    FILL w (ix2 k ⟨h.val * 128 + l.val, by omega⟩) = if hl : l.val < 64 then w (ix3 k h ⟨l.val, hl⟩) else 0 := by
  pointwise [FILL, sitofp_zero]

theorem wk_read (w : FVec Ideal S256x1024 .f32) (k : Fin 256) (h : Fin 8) (l : Fin 128) :
    WK w (ix2 k ⟨h.val * 128 + l.val, by omega⟩)
      = if hl : l.val < 64 then w (ix2 k ⟨h.val * 128 + l.val, by omega⟩) else 0 := by
  pointwise [WK, fill_read]

theorem wv_read (w : FVec Ideal S256x1024 .f32) (k : Fin 256) (h : Fin 8) (l : Fin 128) :
    WV w (ix2 k ⟨h.val * 128 + l.val, by omega⟩)
      = if hl : l.val < 64 then w (ix2 k ⟨h.val * 128 + (64 + l.val), by omega⟩) else 0 := by
  pointwise [WV, fill_read]

theorem ctab_read (s : Fin 4096) (l : Fin 128) :
    CTAB (ix2 s l) = lanes (fun _ => 1) (fun i => Host.cos ANGLE (ix2 s i)) (fun i => Host.cos ANGLE (ix2 s i)) 1 l := by
  induction l using lane_cases with
  | ha i => rw [lanes_a]; pointwise [CTAB]
  | h₁ i => rw [lanes_1]; pointwise [CTAB]
  | h₂ i => rw [lanes_2]; pointwise [CTAB]
  | hz i => rw [lanes_z]; pointwise [CTAB]; rw [dif_neg (by omega), dif_neg (by omega)]

theorem stab_read (s : Fin 4096) (l : Fin 128) :
    STAB (ix2 s l) = lanes (fun _ => 0) (fun i => -Host.sin ANGLE (ix2 s i)) (fun i => Host.sin ANGLE (ix2 s i)) 0 l := by
  induction l using lane_cases with
  | ha i => rw [lanes_a]; pointwise [STAB]
  | h₁ i => rw [lanes_1]; pointwise [STAB]
  | h₂ i => rw [lanes_2]; pointwise [STAB]
  | hz i => rw [lanes_z]; pointwise [STAB]; rw [dif_neg (by omega), dif_neg (by omega)]

/-! ## The blocks -/

theorem point_lt (t : Fin cfg0.N) : t.val < 128 := lt_of_lt_of_eq t.isLt (by decide)

theorem tile_index : ∀ t : Fin cfg0.N, win0_0.index t = ![t.val / 8, t.val % 8, 0] ∧ win0_9.index t = ![t.val % 8, 0]
      ∧ win0_10.index t = ![t.val % 8, 0] ∧ win0_11.index t = ![t.val / 8, t.val % 8, 0] ∧ win0_12.index t = ![t.val / 8, 0, t.val % 8, 0]
      ∧ win0_13.index t = ![t.val / 8, 0, t.val % 8, 0] ∧ win0_14.index t = ![t.val / 8, 0, t.val % 8, 0] :=
  (by decide +kernel : ∀ t : Fin grid0.N, win0_0.index t = ![t.val / 8, t.val % 8, 0] ∧ win0_9.index t = ![t.val % 8, 0]
      ∧ win0_10.index t = ![t.val % 8, 0] ∧ win0_11.index t = ![t.val / 8, t.val % 8, 0] ∧ win0_12.index t = ![t.val / 8, 0, t.val % 8, 0]
      ∧ win0_13.index t = ![t.val / 8, 0, t.val % 8, 0] ∧ win0_14.index t = ![t.val / 8, 0, t.val % 8, 0])

theorem whole_index : ∀ t : Fin cfg0.N, win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0] :=
  (by decide +kernel : ∀ t : Fin grid0.N, win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0])

/-- A point's batch, and the place of its tile's row. -/
def batch (t : Fin cfg0.N) : Fin 16 := ⟨t.val / 8, by have := point_lt t; omega⟩
def place (t : Fin cfg0.N) (r : Fin 512) : Fin 4096 := ⟨t.val % 8 * 512 + r.val, by omega⟩

variable (t : Fin cfg0.N)

theorem x_block (r : Fin 512) (k : Fin 1024) :
    (iblk m c 0 t : FVec Ideal S1x512x1024 .f32) (ix3 0 r k) = argX m c (ix3 (batch t) (place t r) k) := by
  refine Eq.trans (b := (V m c main_arg0 : FVec Ideal S16x4096x1024 .f32) (ix3 (batch t) (place t r) k)) ?_ (congrFun (V_main_arg0 m c) _)
  unfold batch place
  blk_ext [iblk, (tile_index t).1]

theorem g_block (k : Fin 1024) : (iblk m c 1 t : FVec Ideal S1x1024 .f32) (ix2 0 k) = argG m c (ix1 k) := by
  refine Eq.trans (b := (V m c main_v38 : FVec Ideal S1x1024 .f32) (ix2 0 k)) ?_ ((congrFun (g_entry m c) _).trans (by pointwise))
  blk_ext [iblk, (whole_index t).1]

theorem b_block (k : Fin 1024) : (iblk m c 2 t : FVec Ideal S1x1024 .f32) (ix2 0 k) = argB m c (ix1 k) := by
  refine Eq.trans (b := (V m c main_v39 : FVec Ideal S1x1024 .f32) (ix2 0 k)) ?_ ((congrFun (b_entry m c) _).trans (by pointwise))
  blk_ext [iblk, (whole_index t).2.1]

theorem win_block (k : Fin 1024) (j : Fin 1280) : (iblk m c 3 t : FVec Ideal S1024x1280 .bf16) (ix2 k j) = WIN (argW m c) (ix2 k j) := by
  refine Eq.trans (b := (V m c main_v40 : FVec Ideal S1024x1280 .bf16) (ix2 k j)) ?_ (congrFun (win_entry m c) _)
  blk_ext [iblk, (whole_index t).2.2.1]

theorem gq_block (k : Fin 384) : (iblk m c 4 t : FVec Ideal S1x384 .f32) (ix2 0 k) = argGq m c (ix1 k) := by
  refine Eq.trans (b := (V m c main_v41 : FVec Ideal S1x384 .f32) (ix2 0 k)) ?_ ((congrFun (gq_entry m c) _).trans (by pointwise))
  blk_ext [iblk, (whole_index t).2.2.2.1]

theorem wuq_block (k : Fin 384) (j : Fin 1024) : (iblk m c 5 t : FVec Ideal S384x1024 .bf16) (ix2 k j) = WUQ (argWq m c) (ix2 k j) := by
  refine Eq.trans (b := (V m c main_v43 : FVec Ideal S384x1024 .bf16) (ix2 k j)) ?_ (congrFun (wuq_entry m c) _)
  blk_ext [iblk, (whole_index t).2.2.2.2.1]

theorem gkv_block (k : Fin 256) : (iblk m c 6 t : FVec Ideal S1x256 .f32) (ix2 0 k) = argGkv m c (ix1 k) := by
  refine Eq.trans (b := (V m c main_v44 : FVec Ideal S1x256 .f32) (ix2 0 k)) ?_ ((congrFun (gkv_entry m c) _).trans (by pointwise))
  blk_ext [iblk, (whole_index t).2.2.2.2.2.1]

theorem wk_block (k : Fin 256) (j : Fin 1024) : (iblk m c 7 t : FVec Ideal S256x1024 .bf16) (ix2 k j) = WK (argWkv m c) (ix2 k j) := by
  refine Eq.trans (b := (V m c main_v46 : FVec Ideal S256x1024 .bf16) (ix2 k j)) ?_ (congrFun (wk_entry m c) _)
  blk_ext [iblk, (whole_index t).2.2.2.2.2.2.1]

theorem wv_block (k : Fin 256) (j : Fin 1024) : (iblk m c 8 t : FVec Ideal S256x1024 .bf16) (ix2 k j) = WV (argWkv m c) (ix2 k j) := by
  refine Eq.trans (b := (V m c main_v48 : FVec Ideal S256x1024 .bf16) (ix2 k j)) ?_ (congrFun (wv_entry m c) _)
  blk_ext [iblk, (whole_index t).2.2.2.2.2.2.2]

theorem cos_block (r : Fin 512) (l : Fin 128) : (iblk m c 9 t : FVec Ideal S512x128 .f32) (ix2 r l) = CTAB (ix2 (place t r) l) := by
  refine Eq.trans (b := (V m c main_v33 : FVec Ideal S4096x128 .f32) (ix2 (place t r) l)) ?_ (congrFun (cos_entry m c) _)
  unfold place
  blk_ext [iblk, (tile_index t).2.1]

theorem sin_block (r : Fin 512) (l : Fin 128) : (iblk m c 10 t : FVec Ideal S512x128 .f32) (ix2 r l) = STAB (ix2 (place t r) l) := by
  refine Eq.trans (b := (V m c main_v37 : FVec Ideal S4096x128 .f32) (ix2 (place t r) l)) ?_ (congrFun (sin_entry m c) _)
  unfold place
  blk_ext [iblk, (tile_index t).2.2.1]

theorem u_emb (r l : Fin 512) :
    ((win0_11.blk t).view.emb (ix3 0 r l : S1x512x512.Idx) : S16x4096x512.Idx) = ix3 (batch t) (place t r) l := by
  unfold batch place
  blk_ext [(tile_index t).2.2.2.1]

theorem q_emb (h : Fin 8) (r : Fin 512) (l : Fin 128) :
    ((win0_12.blk t).view.emb (ix4 0 h r l : S1x8x512x128.Idx) : S16x8x4096x128.Idx) = ix4 (batch t) h (place t r) l := by
  unfold batch place
  blk_ext [(tile_index t).2.2.2.2.1]

theorem k_emb (h : Fin 8) (r : Fin 512) (l : Fin 128) :
    ((win0_13.blk t).view.emb (ix4 0 h r l : S1x8x512x128.Idx) : S16x8x4096x128.Idx) = ix4 (batch t) h (place t r) l := by
  unfold batch place
  blk_ext [(tile_index t).2.2.2.2.2.1]

theorem v_emb (h : Fin 8) (r : Fin 512) (l : Fin 128) :
    ((win0_14.blk t).view.emb (ix4 0 h r l : S1x8x512x128.Idx) : S16x8x4096x128.Idx) = ix4 (batch t) h (place t r) l := by
  unfold batch place
  blk_ext [(tile_index t).2.2.2.2.2.2]

end Cert.Proof.Proj

end
-- ==== Proof.ProjFinal.lean ====
/-
  The projection kernel's four results are the reference's.
-/
module

public import proofs.«01_k».proof.Proof.ProjBody
public import proofs.«01_k».proof.Proof.ProjRead

@[expose] public section

set_option maxRecDepth 16384

noncomputable section

namespace Cert.Proof.Proj

open Cert.Kernel3Ideal Cert.Kernel3Ideal.Gen Cert.Proof.Moe
open Idealize.ShloMosaic Idealize.ShloMosaic.TcCoe Idealize.SL.Sem
open Idealize.ShloMosaic.Pipeline (Dat)
open Cert.Reference3Ideal.Proj (ANGLE PROJ QALL KVALL UOUT QOUT KOUT VOUT)

variable (m : (ℓ : Loc nD τ sig) → Buf (Elt Ideal) ℓ) (c : Dev nD) (t : Fin cfg0.N)

/-- The reference's input projection, its heads' queries and its heads' keys and values, of the kernel's arguments. -/
abbrev P : FVec Ideal Cert.Reference3Ideal.S16x4096x1184 .f32 := PROJ (argX m c) (argG m c) (argB m c) (argW m c)
abbrev Q : FVec Ideal Cert.Reference3Ideal.S16x4096x8x96 .f32 := QALL (argGq m c) (argWq m c) (P m c)
abbrev KV : FVec Ideal Cert.Reference3Ideal.S16x4096x8x128 .f32 := KVALL (argGkv m c) (argWkv m c) (P m c)

/-- What a point's body computes before it is laid out: the input projection, the queries, the keys, the values. -/
abbrev b44 : FVec Ideal S512x1280 .f32 :=
  k0_pay44 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev b45 : FVec Ideal S512x1024 .f32 :=
  k0_pay45 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev b46 : FVec Ideal S512x1024 .f32 :=
  k0_pay46 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev b47 : FVec Ideal S512x1024 .f32 :=
  k0_pay47 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev b51 : FVec Ideal S512x128 .f32 :=
  k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A column of the block's input projection: the token's layer norm against that column of the laid-out weights. -/
theorem b44_sum (r : Fin 512) (j : Fin 1280) :
    b44 m c t (ix2 r j)
      = ∑ k : Fin 1024, normed (fun k : Fin 1024 => argX m c (ix3 (batch t) (place t r) k)) (argG m c (ix1 k)) (argB m c (ix1 k)) k
          * WIN (argW m c) (ix2 k j) := by
  refine (v44_apply _ _ _ _ _ _ _ _ _ _ _ r j).trans (Finset.sum_congr rfl fun k _ => Ideal.mul_congr ?_ (win_block m c t k j))
  rw [funext fun k => x_block m c t r k, g_block, b_block]

theorem b44_main (r : Fin 512) (j : Fin 1152) :
    b44 m c t (ix2 r ⟨j.val, by omega⟩) = P m c (ix3 (batch t) (place t r) ⟨j.val, by omega⟩) :=
  (b44_sum m c t r _).trans ((Finset.sum_congr rfl fun k _ => Ideal.mul_congr rfl (win_read _ k j)).trans
    (Cert.Reference3Ideal.Proj.proj_apply _ _ _ _ _ _ _).symm)

theorem b44_lanes (r : Fin 512) (l : Fin 128) :
    b44 m c t (ix2 r ⟨1152 + l.val, by omega⟩)
      = lanes (fun _ => 0) (fun i => P m c (ix3 (batch t) (place t r) ⟨1152 + i.val, by omega⟩))
          (fun i => P m c (ix3 (batch t) (place t r) ⟨1152 + (16 + i.val), by omega⟩)) 0 l := by
  refine (b44_sum m c t r _).trans ((Finset.sum_congr rfl fun k _ => Ideal.mul_congr rfl (win_lanes _ k l)).trans ?_)
  induction l using lane_cases with
  | ha i =>
    rw [lanes_a]
    exact Finset.sum_eq_zero fun k _ => by rw [lanes_a, mul_zero]
  | h₁ i =>
    rw [lanes_1]
    exact (Finset.sum_congr rfl fun k _ => by rw [lanes_1]).trans (Cert.Reference3Ideal.Proj.proj_apply _ _ _ _ _ _ _).symm
  | h₂ i =>
    rw [lanes_2]
    exact (Finset.sum_congr rfl fun k _ => by rw [lanes_2]).trans (Cert.Reference3Ideal.Proj.proj_apply _ _ _ _ _ _ _).symm
  | hz i =>
    rw [lanes_z]
    exact Finset.sum_eq_zero fun k _ => by rw [lanes_z, mul_zero]

theorem b45_sum (r : Fin 512) (j : Fin 1024) :
    b45 m c t (ix2 r j)
      = ∑ k : Fin 384, rms 0x43C00000#32 (fun k : Fin 384 => P m c (ix3 (batch t) (place t r) ⟨512 + k.val, by omega⟩)) (fun k => argGq m c (ix1 k)) k
          * WUQ (argWq m c) (ix2 k j) := by
  refine (v45_apply _ _ _ _ _ _ _ _ _ _ _ r j).trans (Finset.sum_congr rfl fun k _ => Ideal.mul_congr ?_ (wuq_block m c t k j))
  rw [show (fun k : Fin 384 => b44 m c t (ix2 r ⟨512 + k.val, by omega⟩)) = _ from funext fun k => b44_main m c t r ⟨512 + k.val, by omega⟩,
    show (fun k : Fin 384 => (iblk m c 4 t : FVec Ideal S1x384 .f32) (ix2 0 k)) = _ from funext fun k => gq_block m c t k]

/-- A head of the block's queries. -/
theorem b45_lanes (h : Fin 8) (r : Fin 512) (l : Fin 128) :
    b45 m c t (ix2 r ⟨h.val * 128 + l.val, by omega⟩)
      = lanes (fun i => Q m c (ix4 (batch t) (place t r) h ⟨i.val, by omega⟩)) (fun i => Q m c (ix4 (batch t) (place t r) h ⟨64 + i.val, by omega⟩))
          (fun i => Q m c (ix4 (batch t) (place t r) h ⟨64 + (16 + i.val), by omega⟩)) 0 l := by
  refine (b45_sum m c t r _).trans ((Finset.sum_congr rfl fun k _ => Ideal.mul_congr rfl (wuq_lanes _ k h l)).trans ?_)
  induction l using lane_cases with
  | ha i =>
    rw [lanes_a]
    exact (Finset.sum_congr rfl fun k _ => by rw [lanes_a]).trans (Cert.Reference3Ideal.Proj.qall_apply _ _ _ _ _ h _).symm
  | h₁ i =>
    rw [lanes_1]
    exact (Finset.sum_congr rfl fun k _ => by rw [lanes_1]).trans (Cert.Reference3Ideal.Proj.qall_apply _ _ _ _ _ h _).symm
  | h₂ i =>
    rw [lanes_2]
    exact (Finset.sum_congr rfl fun k _ => by rw [lanes_2]).trans (Cert.Reference3Ideal.Proj.qall_apply _ _ _ _ _ h _).symm
  | hz i =>
    rw [lanes_z]
    exact Finset.sum_eq_zero fun k _ => by rw [lanes_z, mul_zero]

/-- The token's keys' and values' part, normed, on the block. -/
theorem rmskv_block (r : Fin 512) (k : Fin 256) :
    rms 0x43800000#32 (fun k : Fin 256 => b44 m c t (ix2 r ⟨896 + k.val, by omega⟩)) (fun k => (iblk m c 6 t : FVec Ideal S1x256 .f32) (ix2 0 k)) k
      = rms 0x43800000#32 (fun k : Fin 256 => P m c (ix3 (batch t) (place t r) ⟨896 + k.val, by omega⟩)) (fun k => argGkv m c (ix1 k)) k := by
  rw [show (fun k : Fin 256 => b44 m c t (ix2 r ⟨896 + k.val, by omega⟩)) = _ from funext fun k => b44_main m c t r ⟨896 + k.val, by omega⟩,
    show (fun k : Fin 256 => (iblk m c 6 t : FVec Ideal S1x256 .f32) (ix2 0 k)) = _ from funext fun k => gkv_block m c t k]

/-- A head of the block's keys. -/
theorem b46_read (h : Fin 8) (r : Fin 512) (l : Fin 128) :
    b46 m c t (ix2 r ⟨h.val * 128 + l.val, by omega⟩)
      = if hl : l.val < 64 then KV m c (ix4 (batch t) (place t r) h ⟨l.val, by omega⟩) else 0 := by
  refine (v46_apply _ _ _ _ _ _ _ _ _ _ _ r _).trans ((Finset.sum_congr rfl fun k _ =>
    Ideal.mul_congr (rmskv_block m c t r k) ((wk_block m c t k _).trans (wk_read _ k h l))).trans ?_)
  split
  · exact (Cert.Reference3Ideal.Proj.kvall_apply _ _ _ _ _ h _).symm
  · exact Finset.sum_eq_zero fun k _ => mul_zero _

/-- A head of the block's values. -/
theorem b47_read (h : Fin 8) (r : Fin 512) (l : Fin 128) :
    b47 m c t (ix2 r ⟨h.val * 128 + l.val, by omega⟩)
      = if hl : l.val < 64 then KV m c (ix4 (batch t) (place t r) h ⟨64 + l.val, by omega⟩) else 0 := by
  refine (v47_apply _ _ _ _ _ _ _ _ _ _ _ r _).trans ((Finset.sum_congr rfl fun k _ =>
    Ideal.mul_congr (rmskv_block m c t r k) ((wv_block m c t k _).trans (wv_read _ k h l))).trans ?_)
  split
  · exact (Cert.Reference3Ideal.Proj.kvall_apply _ _ _ _ _ h ⟨64 + l.val, by omega⟩).symm
  · exact Finset.sum_eq_zero fun k _ => mul_zero _

/-- The block's rotary key. -/
theorem b51_lanes (r : Fin 512) (l : Fin 128) :
    b51 m c t (ix2 r l)
      = lanes (fun _ => 0)
          (fun i => Cert.Reference3Ideal.Proj.rot₁ (fun l => P m c (ix3 (batch t) (place t r) ⟨1152 + l.val, by omega⟩)) (place t r) i)
          (fun i => Cert.Reference3Ideal.Proj.rot₂ (fun l => P m c (ix3 (batch t) (place t r) ⟨1152 + l.val, by omega⟩)) (place t r) i) 0 l :=
  (v51_apply _ _ _ _ _ _ _ _ _ _ _ r l).trans (turned_lanes _ _ _ _ _ _ _ _
    (fun l => (cos_block m c t r l).trans (ctab_read _ l)) (fun l => (sin_block m c t r l).trans (stab_read _ l)) (b44_lanes m c t r) l)

/-! ## The results -/

/-- An index of a block of heads. -/
theorem eq_head (y : S1x8x512x128.Idx) : ∃ (h : Fin 8) (r : Fin 512) (l : Fin 128), y = (ix4 0 h r l : S1x8x512x128.Idx) :=
  ⟨y 1, y 2, y 3, (eq_ix4 (n0 := 1) (n1 := 8) (n2 := 512) (n3 := 128) y).trans
    (congrArg (fun a : Fin 1 => (ix4 a (y 1) (y 2) (y 3) : S1x8x512x128.Idx)) (Subsingleton.elim _ _))⟩

theorem u_final : (dats m 0 c).arrAt 11 cfg0.N = UOUT (P m c) := by
  refine (dats m 0 c).arrAt_eq_of_covers 11 _ (by decide +kernel) fun t _ y => ?_
  blk_simp [(tile_index t).2.2.2.1]
  rw [after0_11]
  obtain ⟨r, l, rfl⟩ : ∃ (r : Fin 512) (l : Fin 512), y = (ix3 0 r l : S1x512x512.Idx) :=
    ⟨y 1, y 2, (eq_ix3 (n0 := 1) (n1 := 512) (n2 := 512) y).trans (congrArg (fun a : Fin 1 => (ix3 a (y 1) (y 2) : S1x512x512.Idx)) (Subsingleton.elim _ _))⟩
  refine (out11_apply _ _ _ _ _ _ _ _ _ _ _ r l).trans (Eq.trans ?_ (congrArg _ (u_emb t r l)).symm)
  exact (b44_main m c t r ⟨l.val, by omega⟩).trans (Cert.Reference3Ideal.Proj.uout_apply _ _ _ l).symm

theorem q_final : (dats m 0 c).arrAt 12 cfg0.N = QOUT (Q m c) := by
  refine (dats m 0 c).arrAt_eq_of_covers 12 _ (by decide +kernel) fun t _ y => ?_
  blk_simp [(tile_index t).2.2.2.2.1]
  rw [after0_12]
  obtain ⟨h, r, l, rfl⟩ := eq_head y
  refine (out12_apply _ _ _ _ _ _ _ _ _ _ _ h r l).trans (Eq.trans ?_ (congrArg _ (q_emb t h r l)).symm)
  refine (congrArg (· * _) (turned_lanes _ _ _ _ _ _ _ _ (fun l => (cos_block m c t r l).trans (ctab_read _ l))
    (fun l => (sin_block m c t r l).trans (stab_read _ l)) (b45_lanes m c t h r) l)).trans ?_
  exact (lanes_mul _ _ _ _ l).trans (Cert.Reference3Ideal.Proj.qout_apply _ _ h _ l).symm

theorem k_final : (dats m 0 c).arrAt 13 cfg0.N = KOUT (P m c) (KV m c) := by
  refine (dats m 0 c).arrAt_eq_of_covers 13 _ (by decide +kernel) fun t _ y => ?_
  blk_simp [(tile_index t).2.2.2.2.2.1]
  rw [after0_13]
  obtain ⟨h, r, l, rfl⟩ := eq_head y
  refine (out13_apply _ _ _ _ _ _ _ _ _ _ _ h r l).trans (Eq.trans ?_ (congrArg _ (k_emb t h r l)).symm)
  refine (Ideal.add_congr (b46_read m c t h r l) (b51_lanes m c t r l)).trans ?_
  exact (lanes_add (fun i => KV m c (ix4 (batch t) (place t r) h ⟨i.val, by omega⟩)) _ _ l).trans
    (Cert.Reference3Ideal.Proj.kout_apply _ _ _ h _ l).symm

theorem v_final : (dats m 0 c).arrAt 14 cfg0.N = VOUT (KV m c) := by
  refine (dats m 0 c).arrAt_eq_of_covers 14 _ (by decide +kernel) fun t _ y => ?_
  blk_simp [(tile_index t).2.2.2.2.2.2]
  rw [after0_14]
  obtain ⟨h, r, l, rfl⟩ := eq_head y
  refine (out14_apply _ _ _ _ _ _ _ _ _ _ _ h r l).trans (Eq.trans ?_ (congrArg _ (v_emb t h r l)).symm)
  refine (Ideal.add_congr (b47_read m c t h r l) rfl).trans (Eq.trans ?_ (Cert.Reference3Ideal.Proj.vout_apply _ _ h _ l).symm)
  split
  · exact add_zero _
  · exact zero_add _

end Cert.Proof.Proj

end
-- ==== Proof.MixMath.lean ====
/-
  A token's mixing, over the extended reals: the window means of its neighbours, the groups' weights, and the projection of both kinds of lanes.
-/
module

public import proofs.«01_k».proof.Proof.MoeMath

@[expose] public section

noncomputable section

namespace Cert.Proof.Mix

open Idealize.ShloMosaic

/-- The sum of a group's window; `p e` is the neighbour `e - 8` places on. -/
def window (g : Fin 4) (p : Fin 16 → EReal) : EReal :=
  match g with
  | 0 => p 7 + p 8
  | 1 => p 6 + p 7 + p 8 + p 9
  | 2 => p 4 + p 5 + p 6 + p 7 + p 8 + p 9 + p 10 + p 11
  | 3 => p 0 + p 1 + p 2 + p 3 + p 4 + p 5 + p 6 + p 7 + p 8 + p 9 + p 10 + p 11 + p 12 + p 13 + p 14 + p 15

/-- A group's half width, as a word. -/
def half (g : Fin 4) : BitVec 32 :=
  match g with
  | 0 => 1#32
  | 1 => 2#32
  | 2 => 4#32
  | 3 => 8#32

/-- The places of a window around position `p` that lie in the sequence. -/
def count (g : Fin 4) (p : BitVec 32) : BitVec 32 :=
  IntOp.addi (IntOp.subi (IntOp.minsi (IntOp.subi (IntOp.addi p (half g)) 1#32) 4095#32) (IntOp.maxsi (IntOp.subi p (half g)) 0#32)) 1#32

/-- A lane's window mean less the lane. -/
def diff (g : Fin 4) (p : Fin 16 → EReal) (n : EReal) : EReal := Ideal.div (window g p) n - p 8

/-- One group's part of an output. -/
def part (a : Fin 128 → EReal) (W : Fin 128 → Fin 128 → EReal) (sc wo : Fin 128 → EReal) : EReal :=
  ∑ d, (∑ c, a c * W c d) * sc d * wo d

/-- One group's part of an output, on all lanes. -/
def group (g : Fin 4) (p : Fin 512 → Fin 16 → EReal) (n : EReal) (W : Fin 128 → Fin 128 → EReal) (sc : Fin 512 → EReal)
    (wo : Fin 1024 → EReal) : EReal :=
  part (fun c => diff g (p ⟨g.val * 128 + c.val, by omega⟩) n) W (fun d => sc ⟨g.val * 128 + d.val, by omega⟩)
    (fun d => wo ⟨g.val * 128 + d.val, by omega⟩)

/-- A token's mixed value at one place: `x` its normed value there, `a` its attention lanes. -/
def mixed (x : EReal) (a : Fin 512 → EReal) (p : Fin 512 → Fin 16 → EReal) (n : Fin 4 → EReal)
    (W : Fin 4 → Fin 128 → Fin 128 → EReal) (sc : Fin 512 → EReal) (wo : Fin 1024 → EReal) : EReal :=
  Ideal.ofBits .f32 0x3F9837F0#32 * x
    + ((∑ k : Fin 512, a k * wo ⟨512 + k.val, by omega⟩) + group 0 p (n 0) (W 0) sc wo + group 1 p (n 1) (W 1) sc wo
        + group 2 p (n 2) (W 2) sc wo + group 3 p (n 3) (W 3) sc wo)

/-- A row's softmax. -/
def softmax {n : ℕ} (L : Fin n → EReal) (e : Fin n) : EReal :=
  Ideal.div (Ideal.exp (L e - Finset.univ.fold max ⊥ L)) (∑ i, Ideal.exp (L i - Finset.univ.fold max ⊥ L))

/-- A sequence with eight zeros before it and after it. -/
def padded (u : Fin 4096 → EReal) (p : ℕ) : EReal := if h : 8 ≤ p ∧ p < 4104 then u ⟨p - 8, by omega⟩ else 0

theorem padded_self (u : Fin 4096 → EReal) (s : Fin 4096) : padded u (8 + s.val) = u s := by
  unfold padded
  rw [dif_pos (by omega)]
  exact congrArg u (Fin.ext (by simp))

theorem sum_lanes (f : Fin 1024 → EReal) :
    ∑ k, f k = (∑ k : Fin 512, f ⟨512 + k.val, by omega⟩) + (∑ d : Fin 128, f ⟨0 * 128 + d.val, by omega⟩)
      + (∑ d : Fin 128, f ⟨1 * 128 + d.val, by omega⟩) + (∑ d : Fin 128, f ⟨2 * 128 + d.val, by omega⟩)
      + ∑ d : Fin 128, f ⟨3 * 128 + d.val, by omega⟩ := by
  rw [show ∑ k : Fin 1024, f k = ∑ k : Fin (128 + (128 + (128 + (128 + 512)))), f k from rfl,
    Fin.sum_univ_add, Fin.sum_univ_add, Fin.sum_univ_add, Fin.sum_univ_add]
  have e₀ : ∀ d : Fin 128, f (Fin.castAdd (128 + (128 + (128 + 512))) d) = f ⟨0 * 128 + d.val, by omega⟩ :=
    fun d => congrArg f (Fin.ext (by simp))
  have e₁ : ∀ d : Fin 128, f (Fin.natAdd 128 (Fin.castAdd (128 + (128 + 512)) d)) = f ⟨1 * 128 + d.val, by omega⟩ :=
    fun d => congrArg f (Fin.ext (by simp))
  have e₂ : ∀ d : Fin 128, f (Fin.natAdd 128 (Fin.natAdd 128 (Fin.castAdd (128 + 512) d))) = f ⟨2 * 128 + d.val, by omega⟩ :=
    fun d => congrArg f (Fin.ext (by simp; omega))
  have e₃ : ∀ d : Fin 128, f (Fin.natAdd 128 (Fin.natAdd 128 (Fin.natAdd 128 (Fin.castAdd 512 d)))) = f ⟨3 * 128 + d.val, by omega⟩ :=
    fun d => congrArg f (Fin.ext (by simp; omega))
  have e₄ : ∀ d : Fin 512, f (Fin.natAdd 128 (Fin.natAdd 128 (Fin.natAdd 128 (Fin.natAdd 128 d)))) = f ⟨512 + d.val, by omega⟩ :=
    fun d => congrArg f (Fin.ext (by simp; omega))
  simp only [e₀, e₁, e₂, e₃, e₄]
  abel

/-- The lanes put together, then projected at once. -/
theorem mixed_eq (x : EReal) (a : Fin 512 → EReal) (p : Fin 512 → Fin 16 → EReal) (n : Fin 4 → EReal)
    (W : Fin 4 → Fin 128 → Fin 128 → EReal) (sc : Fin 512 → EReal) (wo : Fin 1024 → EReal) (f : Fin 1024 → EReal)
    (ha : ∀ k : Fin 512, f ⟨512 + k.val, by omega⟩ = a k)
    (hp : ∀ (g : Fin 4) (d : Fin 128), f ⟨g.val * 128 + d.val, by omega⟩
      = (∑ c, W g c d * diff g (p ⟨g.val * 128 + c.val, by omega⟩) (n g)) * sc ⟨g.val * 128 + d.val, by omega⟩) :
    Ideal.ofBits .f32 0x3F9837F0#32 * x + ∑ k, f k * wo k = mixed x a p n W sc wo := by
  have hg (g : Fin 4) : ∑ d : Fin 128, f ⟨g.val * 128 + d.val, by omega⟩ * wo ⟨g.val * 128 + d.val, by omega⟩ = group g p (n g) (W g) sc wo := by
    unfold group part
    refine Finset.sum_congr rfl fun d _ => ?_
    rw [hp]
    congr 2
    exact Finset.sum_congr rfl fun c _ => mul_comm _ _
  unfold mixed
  rw [← hg 0, ← hg 1, ← hg 2, ← hg 3, sum_lanes]
  simp only [ha]
  rfl

end Cert.Proof.Mix

end
-- ==== Proof.MixBody.lean ====
/-
  What the mixing kernel's body computes, at an index.
-/
module

public import proofs.«01_k».proof.Proof.MixMath
public import proofs.«01_k».proof.Proof.Gen.Kernel4Ideal.Frame
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Proof.Mix

open Cert.Kernel4Ideal Cert.Kernel4Ideal.Gen Cert.Proof.Moe
open Idealize.ShloMosaic Idealize.ShloMosaic.TcCoe Idealize.SL.Sem

/-- A group's window means less its lanes, its weights, its scale, its rows of the projection: added to what came before. -/
theorem pay12_apply (v : FVec Ideal S512x1024 .f32) (s : FVec Ideal S512x128 .f32) (lo hi top : IVec S512x1 32) (z : FVec Ideal S512x128 .f32)
    (W : FVec Ideal S1x128x128 .bf16) (sc : FVec Ideal S1x128 .f32) (wo : FVec Ideal S128x1024 .bf16) (r : Fin 512) (j : Fin 1024) :
    k0_pay12 v s lo hi top z W sc wo (ix2 r j)
      = v (ix2 r j) + part (fun c => Ideal.div (s (ix2 r c)) (FloatOps.sitofp (F := Ideal) .f32 (IntOp.addi (IntOp.subi (IntOp.minsi (hi (ix2 r 0)) (top (ix2 r 0))) (lo (ix2 r 0))) 1#32)) - z (ix2 r c))
          (fun c d => W (ix3 0 c d)) (fun d => sc (ix2 0 d)) (fun d => wo (ix2 d j)) := by
  pointwise [k0_pay12]
  rfl

theorem pay17_apply (v : FVec Ideal S512x1024 .f32) (s : FVec Ideal S512x128 .f32) (lo hi one : IVec S512x1 32) (z : FVec Ideal S512x128 .f32)
    (W : FVec Ideal S1x128x128 .bf16) (sc : FVec Ideal S1x128 .f32) (wo : FVec Ideal S128x1024 .bf16) (r : Fin 512) (j : Fin 1024) :
    k0_pay17 v s lo hi one z W sc wo (ix2 r j)
      = v (ix2 r j) + part (fun c => Ideal.div (s (ix2 r c)) (FloatOps.sitofp (F := Ideal) .f32 (IntOp.addi (IntOp.subi (IntOp.minsi (IntOp.subi (hi (ix2 r 0)) (one (ix2 r 0))) 4095#32) (lo (ix2 r 0))) 1#32)) - z (ix2 r c))
          (fun c d => W (ix3 0 c d)) (fun d => sc (ix2 0 d)) (fun d => wo (ix2 d j)) := by
  pointwise [k0_pay17]
  rfl

theorem pay19_apply (pos : IVec S512x1 32) (v : FVec Ideal S512x1024 .f32) (s t t' : FVec Ideal S512x128 .f32) (z : FVec Ideal S512x128 .f32)
    (W : FVec Ideal S1x128x128 .bf16) (sc : FVec Ideal S1x128 .f32) (wo : FVec Ideal S128x1024 .bf16) (r : Fin 512) (j : Fin 1024) :
    k0_pay19 pos v s t t' z W sc wo (ix2 r j)
      = v (ix2 r j) + part (fun c => Ideal.div (s (ix2 r c) + t (ix2 r c) + t' (ix2 r c)) (FloatOps.sitofp (F := Ideal) .f32 (count 2 (pos (ix2 r 0)))) - z (ix2 r c))
          (fun c d => W (ix3 0 c d)) (fun d => sc (ix2 0 d)) (fun d => wo (ix2 d j)) := by
  pointwise [k0_pay19]
  rfl

theorem pay21_apply (x : FVec Ideal S512x1024 .f32) (pos : IVec S512x1 32) (v : FVec Ideal S512x1024 .f32) (s : FVec Ideal S512x128 .f32) (z : FVec Ideal S512x128 .f32)
    (W : FVec Ideal S1x128x128 .bf16) (sc : FVec Ideal S1x128 .f32) (wo : FVec Ideal S128x1024 .bf16) (r : Fin 512) (j : Fin 1024) :
    k0_pay21 x pos v s 8#32 z W sc wo (ix2 r j)
      = Ideal.ofBits .f32 0x3F9837F0#32 * x (ix2 r j) + (v (ix2 r j) + part (fun c => Ideal.div (s (ix2 r c)) (FloatOps.sitofp (F := Ideal) .f32 (count 3 (pos (ix2 r 0)))) - z (ix2 r c))
          (fun c d => W (ix3 0 c d)) (fun d => sc (ix2 0 d)) (fun d => wo (ix2 d j))) := by
  pointwise [k0_pay21]
  rfl

theorem pay2_apply (x : FVec Ideal S1x512x1024 .f32) (g b : FVec Ideal S1x1024 .f32) (r : Fin 512) (j : Fin 1024) :
    k0_pay2 (F := Ideal) x g b (ix2 r j) = normed (fun k : Fin 1024 => x (ix3 0 r k)) (g (ix2 0 j)) (b (ix2 0 j)) j := by
  pointwise [k0_pay2]
  rfl

theorem pay7_apply (a : FVec Ideal S1x512x512 .bf16) (w : FVec Ideal S512x1024 .bf16) (r : Fin 512) (j : Fin 1024) :
    k0_pay7 (F := Ideal) a w (ix2 r j) = ∑ k : Fin 512, a (ix3 0 r k) * w (ix2 k j) := by
  pointwise [k0_pay7]

theorem pay24_apply (v : FVec Ideal S512x1024 .f32) (g b : FVec Ideal S1x1024 .f32) (r : Fin 512) (j : Fin 1024) :
    k0_pay24 v (k0_pay22 g) (k0_pay23 b) (ix2 r j) = normed (fun k : Fin 1024 => v (ix2 r k)) (g (ix2 0 j)) (b (ix2 0 j)) j := by
  pointwise [k0_pay24, k0_pay22, k0_pay23]
  rfl

/-- The position of a row, as a word. -/
theorem pay6_apply (w : BitVec 32) (r : Fin 512) :
    k0_pay6 w (ix2 r 0) = IntOp.addi (IntOp.muli w 512#32) (BitVec.ofNat 32 r.val) := by
  pointwise [k0_pay6]
  rfl

theorem part_eq {g : Fin 4} {p : Fin 512 → Fin 16 → EReal} {n : EReal} {W : Fin 128 → Fin 128 → EReal} {sc : Fin 512 → EReal}
    {wo : Fin 1024 → EReal} {a : Fin 128 → EReal} {W' : Fin 128 → Fin 128 → EReal} {sc' wo' : Fin 128 → EReal}
    (ha : ∀ c, a c = diff g (p ⟨g.val * 128 + c.val, by omega⟩) n) (hW : ∀ c d, W' c d = W c d)
    (hs : ∀ d, sc' d = sc ⟨g.val * 128 + d.val, by omega⟩) (hw : ∀ d, wo' d = wo ⟨g.val * 128 + d.val, by omega⟩) :
    part a W' sc' wo' = group g p n W sc wo := by
  unfold group part
  simp only [ha, hW, hs, hw]

/-- A row's mixed values on the blocks, `C` the scratch. -/
def row (w : BitVec 32) (C : FVec Ideal S528x512 .f32) (x0 : FVec Ideal S1x512x1024 .f32) (x4 : FVec Ideal S1x512x512 .bf16) (x5 x6 : FVec Ideal S1x1024 .f32)
    (x7 : FVec Ideal S4x128x128 .bf16) (x8 : FVec Ideal S1x512 .f32) (x9 : FVec Ideal S1024x1024 .bf16) (r : Fin 512) (j : Fin 1024) : EReal :=
  mixed (normed (fun k : Fin 1024 => x0 (ix3 0 r k)) (x5 (ix2 0 j)) (x6 (ix2 0 j)) j) (fun k => x4 (ix3 0 r k))
    (fun l e => C (ix2 ⟨e.val + r.val, by omega⟩ l)) (fun g => FloatOps.sitofp (F := Ideal) .f32 (count g (IntOp.addi (IntOp.muli w 512#32) (BitVec.ofNat 32 r.val))))
    (fun g c d => x7 (ix3 g c d)) (fun l => x8 (ix2 0 l)) (fun k => x9 (ix2 k j))

theorem pay25_apply (v : FVec Ideal S512x1024 .f32) (g b : FVec Ideal S1x1024 .f32) (r : Fin 512) (j : Fin 1024) :
    k0_pay25 v (k0_pay22 g) (k0_pay23 b) (ix3 0 r j) = normed (fun k : Fin 1024 => v (ix2 r k)) (g (ix2 0 j)) (b (ix2 0 j)) j := by
  pointwise [k0_pay25, pay24_apply]

theorem pay26_apply (v : FVec Ideal S512x1024 .f32) (g b : FVec Ideal S1x1024 .f32) (r : Fin 512) (j : Fin 1024) :
    k0_pay26 v (k0_pay22 g) (k0_pay23 b) (ix3 0 r j) = normed (fun k : Fin 1024 => v (ix2 r k)) (g (ix2 0 j)) (b (ix2 0 j)) j := by
  pointwise [k0_pay26, pay24_apply]

theorem pay27_apply (v : FVec Ideal S512x1024 .f32) (g b : FVec Ideal S1x1024 .f32) (w : FVec Ideal S1024x16 .f32) (r : Fin 512) (e : Fin 16) :
    k0_pay1 (k0_pay27 v (k0_pay22 g) (k0_pay23 b) w) (ix3 0 r e)
      = softmax (fun e => ∑ j : Fin 1024, normed (fun k : Fin 1024 => v (ix2 r k)) (g (ix2 0 j)) (b (ix2 0 j)) j * w (ix2 j e)) e := by
  pointwise [k0_pay1, k0_pay27, pay24_apply]
  rfl

/-- The scratch: eight rows before the block, the block, eight rows after it; zeros where the sequence ends. -/
def scratch (w : BitVec 32) (x1 : FVec Ideal S1x8x512 .f32) (x2 : FVec Ideal S1x512x512 .f32) (x3 : FVec Ideal S1x8x512 .f32) : FVec Ideal S528x512 .f32 :=
  fun y => if h : (y 0).val < 8 then Scalar.select (Scalar.cmpi .sgt w 0#32) (x1 (ix3 0 ⟨(y 0).val, h⟩ (y 1))) 0
    else if h' : (y 0).val < 520 then x2 (ix3 0 ⟨(y 0).val - 8, by omega⟩ (y 1))
    else Scalar.select (Scalar.cmpi .slt w 7#32) (x3 (ix3 0 ⟨(y 0).val - 520, by have : (y 0).val < 528 := (y 0).isLt; omega⟩ (y 1))) 0

variable (c : Dev nD) (i : grid0.Coords) (arg2 : Memref sig .tc .vmem S1x512x1024 .f32) (harg2 : arg2.IsWhole) (arg3 : Memref sig .tc .vmem S1x8x512 .f32) (harg3 : arg3.IsWhole) (arg4 : Memref sig .tc .vmem S1x512x512 .f32) (harg4 : arg4.IsWhole) (arg5 : Memref sig .tc .vmem S1x8x512 .f32) (harg5 : arg5.IsWhole) (arg6 : Memref sig .tc .vmem S1x512x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x16 .f32) (harg14 : arg14.IsWhole) (arg15 : Memref sig .tc .vmem S1x512x1024 .f32) (harg15 : arg15.IsWhole) (arg16 : Memref sig .tc .vmem S1x512x1024 .bf16) (harg16 : arg16.IsWhole) (arg17 : Memref sig .tc .vmem S1x512x16 .f32) (harg17 : arg17.IsWhole) (arg18 : Memref sig .tc .vmem S528x512 .f32) (harg18 : arg18.IsWhole)
  (x0 : Vec Ideal S1x512x1024 .f32) (x1 : Vec Ideal S1x8x512 .f32) (x2 : Vec Ideal S1x512x512 .f32) (x3 : Vec Ideal S1x8x512 .f32) (x4 : Vec Ideal S1x512x512 .bf16) (x5 : Vec Ideal S1x1024 .f32) (x6 : Vec Ideal S1x1024 .f32) (x7 : Vec Ideal S4x128x128 .bf16) (x8 : Vec Ideal S1x512 .f32) (x9 : Vec Ideal S1024x1024 .bf16) (x10 : Vec Ideal S1x1024 .f32) (x11 : Vec Ideal S1x1024 .f32) (x12 : Vec Ideal S1024x16 .f32)

set_option maxHeartbeats 1600000 in
/-- What the body leaves in the three outputs. -/
theorem outs_apply : ∃ v : FVec Ideal S512x1024 .f32,
    (∀ r j, v (ix2 r j) = row (BitVec.ofNat 32 (i 1).val) (scratch (BitVec.ofNat 32 (i 1).val) x1 x2 x3) x0 x4 x5 x6 x7 x8 x9 r j)
    ∧ (∀ y, out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 y = k0_pay25 v (k0_pay22 x10) (k0_pay23 x11) y)
    ∧ (∀ y, out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 y = k0_pay26 v (k0_pay22 x10) (k0_pay23 x11) y)
    ∧ (∀ y, out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 y = k0_pay1 (k0_pay27 v (k0_pay22 x10) (k0_pay23 x11) x12) y) := by
  have hld (L : List (View.Piece (Elt Ideal) S528x512 .f32)) (R : Rect S528x512) : arg18.view.readCov L R.toLoadRect = View.ld (View.canon L) R :=
    View.readCov_eq_canon' _ _ _
  have hC : View.canon (s := S528x512) (e := .f32) (Val := Elt Ideal) [⟨Rect.unit ![520, 0] ![8, 512] inb_S528x512_S8x512_520_0, k0_pay5 (F := Ideal) (BitVec.ofNat 32 ↑(i 1)) x3⟩,
        ⟨Rect.unit ![8, 0] ![512, 512] inb_S528x512_S512x512_8_0, k0_pay4 (F := Ideal) x2⟩,
        ⟨Rect.unit ![0, 0] ![8, 512] inb_S528x512_S8x512_0_0, k0_pay3 (F := Ideal) i x1⟩] = scratch (BitVec.ofNat 32 (i 1).val) x1 x2 x3 := by
    funext y
    obtain ⟨a, l, rfl⟩ : ∃ (a : Fin 528) (l : Fin 512), y = (ix2 a l : S528x512.Idx) := ⟨y 0, y 1, eq_ix2 (n0 := 528) (n1 := 512) y⟩
    have hcover := View.cover_of_tiledBy (Val := Elt Ideal) (s := S528x512) (e := .f32) [⟨Rect.unit ![520, 0] ![8, 512] inb_S528x512_S8x512_520_0, k0_pay5 (F := Ideal) (BitVec.ofNat 32 ↑(i 1)) x3⟩,
        ⟨Rect.unit ![8, 0] ![512, 512] inb_S528x512_S512x512_8_0, k0_pay4 (F := Ideal) x2⟩,
        ⟨Rect.unit ![0, 0] ![8, 512] inb_S528x512_S8x512_0_0, k0_pay3 (F := Ideal) i x1⟩] ![8, 512] (by sl_kernel_rfl)
    canon_tiles x hx using hcover _
    all_goals
      obtain rfl : l = x 1 := Fin.ext hx1
      obtain ⟨q, l, rfl⟩ : ∃ q l, x = ix2 q l := ⟨x 0, x 1, eq_ix2 x⟩
      change a.val = _ at hx0
      unfold scratch
    · rw [dif_neg (by change ¬a.val < 8; omega), dif_neg (by change ¬a.val < 520; omega)]
      pointwise [k0_pay5]
      exact congrArg (fun z => Scalar.select _ (x3 (ix3 0 z l)) (0 : EReal)) (Fin.ext (by change q.val = a.val - 520; change a.val = 520 + q.val at hx0; omega))
    · rw [dif_neg (by change ¬a.val < 8; have := q.isLt; omega), dif_pos (by change a.val < 520; have := q.isLt; omega)]
      pointwise [k0_pay4]
      exact congrArg (fun z => x2 (ix3 0 z l)) (Fin.ext (by change q.val = a.val - 8; change a.val = 8 + q.val at hx0; omega))
    · rw [dif_pos (by change a.val < 8; have := q.isLt; omega)]
      pointwise [k0_pay3]
      exact congrArg (fun z => Scalar.select _ (x1 (ix3 0 z l)) (0 : EReal)) (Fin.ext (by change q.val = a.val; exact hx0.symm))
  refine ⟨?outv, ?_, ?_, ?_, ?_⟩
  rotate_left
  rotate_left
  · intro y
    frame_out
    simp only [hld, hC]
    try exact rfl
  · intro y
    frame_out
    simp only [hld, hC]
    try exact rfl
  · intro y
    frame_out
    simp only [hld, hC]
    try exact rfl
  intro r j
  refine (pay21_apply _ _ _ _ _ _ _ _ r j).trans ?_
  unfold row mixed
  generalize scratch (BitVec.ofNat 32 (i 1).val) x1 x2 x3 = C
  refine congrArg₂ (· + ·) (congrArg (_ * ·) (pay2_apply x0 x5 x6 r j)) (congrArg₂ (· + ·) ((pay19_apply _ _ _ _ _ _ _ _ _ r j).trans
    (congrArg₂ (· + ·) ((pay17_apply _ _ _ _ _ _ _ _ _ r j).trans (congrArg₂ (· + ·) ((pay12_apply _ _ _ _ _ _ _ _ _ r j).trans
      (congrArg₂ (· + ·) ((pay7_apply _ _ r j).trans ?_) ?_)) ?_)) ?_)) ?_)
  · pointwise
  all_goals
    refine part_eq (fun c => ?_) (fun c d => ?_) (fun d => ?_) (fun d => ?_)
    · pointwise [k0_pay8, k0_pay9, k0_pay10, k0_pay11, k0_pay13, k0_pay14, k0_pay15, k0_pay16, k0_pay18, k0_pay20, pay6_apply]
      first
        | rfl
        | simp only [diff, window, Fin.isValue, Fin.coe_ofNat_eq_mod, Nat.zero_mod, zero_add]
    all_goals pointwise

end Cert.Proof.Mix

end
-- ==== Proof.MixRef.lean ====
/-
  The reference's mixing at an index.
-/
module

public import proofs.«01_k».proof.Proof.MixMath
public import proofs.«01_k».proof.Proof.Softmax
public import proofs.«01_k».proof.Proof.Gen.Reference4Ideal.Run

@[expose] public section

set_option maxRecDepth 16384

noncomputable section

open Idealize.ShloMosaic Idealize.ShloMosaic.TcCoe Idealize.SL.Sem Idealize.ShloMosaic.StableHlo

namespace Cert.Reference4Ideal.Mix

open Cert.Reference4Ideal Cert.Reference4Ideal.Gen Cert.Proof.Moe Cert.Proof.Mix

variable (x h : FVec Ideal S16x4096x1024 .f32) (u : FVec Ideal S16x4096x512 .f32) (a : FVec Ideal S16x4096x512 .bf16)
  (g b : FVec Ideal S1024 .f32) (W : FVec Ideal S4x128x128 .f32) (sc : FVec Ideal S512 .f32) (wo : FVec Ideal S1024x1024 .f32)
  (rt : FVec Ideal S1024x16 .f32)

/-- The rows' means, one column. -/
def MEAN : FVec Ideal S16x4096x1 .f32 :=
  Host.divf (broadcastInDim S16x4096x1 ![0, 1] bcast_S16x4096_S16x4096x1_0_1 (Host.reduceAdd h (constant S_ .f32 0x00000000#32) reducesTo_S16x4096x1024_S16x4096_d2 h_S_)) (broadcastInDim S16x4096x1 ![] bcast_S_S16x4096x1 (constant S_ .f32 0x44800000#32))

def CENTRED : FVec Ideal S16x4096x1024 .f32 :=
  subf h (broadcastInDim S16x4096x1024 ![0, 1, 2] bcast_S16x4096x1_S16x4096x1024_0_1_2 (MEAN h))

/-- A layer norm. -/
def NORM : FVec Ideal S16x4096x1024 .f32 :=
  addf (mulf (mulf (CENTRED h) (broadcastInDim S16x4096x1024 ![0, 1, 2] bcast_S16x4096x1_S16x4096x1024_0_1_2 (Host.rsqrt (addf (MEAN (mulf (CENTRED h) (CENTRED h))) (broadcastInDim S16x4096x1 ![] bcast_S_S16x4096x1 (constant S_ .f32 0x3727C5AC#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S1x1x1024_S16x4096x1024_0_1_2 (broadcastInDim S1x1x1024 ![2] bcast_S1024_S1x1x1024_2 b))

/-- The sequence with zeros before it and after it. -/
def UPAD : FVec Ideal S16x4112x512 .f32 :=
  pad S16x4112x512 ![0, 8, 0] ![0, 8, 0] ![0, 0, 0] u (sitofp (F := Ideal) .f32 (constantI S_ 32 0#32)) pads_S16x4096x512_S16x4112x512_000_880_000 h_S_

/-- The places of a window of half width `w` that lie in the sequence. -/
def COUNT (w : BitVec 32) : FVec Ideal S16x4096x128 .f32 :=
  broadcastInDim S16x4096x128 ![0, 1, 2] bcast_S1x4096x1_S16x4096x128_0_1_2 (broadcastInDim S1x4096x1 ![1] bcast_S4096_S1x4096x1_1 (sitofp .f32 (addi (subi (minsi (broadcastInDim S4096 ![] bcast_S_S4096 (id (constantI S_ 32 4095#32))) (maxsi (broadcastInDim S4096 ![] bcast_S_S4096 (id (constantI S_ 32 0#32))) (subi (addi (iotaInDim S4096 32 0) (broadcastInDim S4096 ![] bcast_S_S4096 (constantI S_ 32 w))) (broadcastInDim S4096 ![] bcast_S_S4096 (constantI S_ 32 1#32))))) (minsi (broadcastInDim S4096 ![] bcast_S_S4096 (id (constantI S_ 32 4095#32))) (maxsi (broadcastInDim S4096 ![] bcast_S_S4096 (id (constantI S_ 32 0#32))) (subi (iotaInDim S4096 32 0) (broadcastInDim S4096 ![] bcast_S_S4096 (constantI S_ 32 w)))))) (broadcastInDim S4096 ![] bcast_S_S4096 (constantI S_ 32 1#32)))))

/-- Group 0: the window means less the lanes. -/
def DIFF0 : FVec Ideal S16x4096x128 .f32 :=
  subf (Host.divf (addf (extractStridedSlice S16x4096x128 ![0, 7, 0] (UPAD u) slices_S16x4112x512_S16x4096x128_0_7_0) (extractStridedSlice S16x4096x128 ![0, 8, 0] (UPAD u) slices_S16x4112x512_S16x4096x128_0_8_0)) (COUNT 1#32)) (extractStridedSlice S16x4096x128 ![0, 0, 0] u slices_S16x4096x512_S16x4096x128_0_0_0)

/-- Group 1: the window means less the lanes. -/
def DIFF1 : FVec Ideal S16x4096x128 .f32 :=
  subf (Host.divf (addf (addf (addf (extractStridedSlice S16x4096x128 ![0, 6, 128] (UPAD u) slices_S16x4112x512_S16x4096x128_0_6_128) (extractStridedSlice S16x4096x128 ![0, 7, 128] (UPAD u) slices_S16x4112x512_S16x4096x128_0_7_128)) (extractStridedSlice S16x4096x128 ![0, 8, 128] (UPAD u) slices_S16x4112x512_S16x4096x128_0_8_128)) (extractStridedSlice S16x4096x128 ![0, 9, 128] (UPAD u) slices_S16x4112x512_S16x4096x128_0_9_128)) (COUNT 2#32)) (extractStridedSlice S16x4096x128 ![0, 0, 128] u slices_S16x4096x512_S16x4096x128_0_0_128)

/-- Group 2: the window means less the lanes. -/
def DIFF2 : FVec Ideal S16x4096x128 .f32 :=
  subf (Host.divf (addf (addf (addf (addf (addf (addf (addf (extractStridedSlice S16x4096x128 ![0, 4, 256] (UPAD u) slices_S16x4112x512_S16x4096x128_0_4_256) (extractStridedSlice S16x4096x128 ![0, 5, 256] (UPAD u) slices_S16x4112x512_S16x4096x128_0_5_256)) (extractStridedSlice S16x4096x128 ![0, 6, 256] (UPAD u) slices_S16x4112x512_S16x4096x128_0_6_256)) (extractStridedSlice S16x4096x128 ![0, 7, 256] (UPAD u) slices_S16x4112x512_S16x4096x128_0_7_256)) (extractStridedSlice S16x4096x128 ![0, 8, 256] (UPAD u) slices_S16x4112x512_S16x4096x128_0_8_256)) (extractStridedSlice S16x4096x128 ![0, 9, 256] (UPAD u) slices_S16x4112x512_S16x4096x128_0_9_256)) (extractStridedSlice S16x4096x128 ![0, 10, 256] (UPAD u) slices_S16x4112x512_S16x4096x128_0_10_256)) (extractStridedSlice S16x4096x128 ![0, 11, 256] (UPAD u) slices_S16x4112x512_S16x4096x128_0_11_256)) (COUNT 4#32)) (extractStridedSlice S16x4096x128 ![0, 0, 256] u slices_S16x4096x512_S16x4096x128_0_0_256)

/-- Group 3: the window means less the lanes. -/
def DIFF3 : FVec Ideal S16x4096x128 .f32 :=
  subf (Host.divf (addf (addf (addf (addf (addf (addf (addf (addf (addf (addf (addf (addf (addf (addf (addf (extractStridedSlice S16x4096x128 ![0, 0, 384] (UPAD u) slices_S16x4112x512_S16x4096x128_0_0_384) (extractStridedSlice S16x4096x128 ![0, 1, 384] (UPAD u) slices_S16x4112x512_S16x4096x128_0_1_384)) (extractStridedSlice S16x4096x128 ![0, 2, 384] (UPAD u) slices_S16x4112x512_S16x4096x128_0_2_384)) (extractStridedSlice S16x4096x128 ![0, 3, 384] (UPAD u) slices_S16x4112x512_S16x4096x128_0_3_384)) (extractStridedSlice S16x4096x128 ![0, 4, 384] (UPAD u) slices_S16x4112x512_S16x4096x128_0_4_384)) (extractStridedSlice S16x4096x128 ![0, 5, 384] (UPAD u) slices_S16x4112x512_S16x4096x128_0_5_384)) (extractStridedSlice S16x4096x128 ![0, 6, 384] (UPAD u) slices_S16x4112x512_S16x4096x128_0_6_384)) (extractStridedSlice S16x4096x128 ![0, 7, 384] (UPAD u) slices_S16x4112x512_S16x4096x128_0_7_384)) (extractStridedSlice S16x4096x128 ![0, 8, 384] (UPAD u) slices_S16x4112x512_S16x4096x128_0_8_384)) (extractStridedSlice S16x4096x128 ![0, 9, 384] (UPAD u) slices_S16x4112x512_S16x4096x128_0_9_384)) (extractStridedSlice S16x4096x128 ![0, 10, 384] (UPAD u) slices_S16x4112x512_S16x4096x128_0_10_384)) (extractStridedSlice S16x4096x128 ![0, 11, 384] (UPAD u) slices_S16x4112x512_S16x4096x128_0_11_384)) (extractStridedSlice S16x4096x128 ![0, 12, 384] (UPAD u) slices_S16x4112x512_S16x4096x128_0_12_384)) (extractStridedSlice S16x4096x128 ![0, 13, 384] (UPAD u) slices_S16x4112x512_S16x4096x128_0_13_384)) (extractStridedSlice S16x4096x128 ![0, 14, 384] (UPAD u) slices_S16x4112x512_S16x4096x128_0_14_384)) (extractStridedSlice S16x4096x128 ![0, 15, 384] (UPAD u) slices_S16x4112x512_S16x4096x128_0_15_384)) (COUNT 8#32)) (extractStridedSlice S16x4096x128 ![0, 0, 384] u slices_S16x4096x512_S16x4096x128_0_0_384)

/-- The groups side by side. -/
def DIFFS : FVec Ideal S16x4096x4x128 .f32 :=
  concatenate S16x4096x4x128 2 [⟨S16x4096x1x128, broadcastInDim S16x4096x1x128 ![0, 1, 3] bcast_S16x4096x128_S16x4096x1x128_0_1_3 (DIFF0 u)⟩, ⟨S16x4096x1x128, broadcastInDim S16x4096x1x128 ![0, 1, 3] bcast_S16x4096x128_S16x4096x1x128_0_1_3 (DIFF1 u)⟩, ⟨S16x4096x1x128, broadcastInDim S16x4096x1x128 ![0, 1, 3] bcast_S16x4096x128_S16x4096x1x128_0_1_3 (DIFF2 u)⟩, ⟨S16x4096x1x128, broadcastInDim S16x4096x1x128 ![0, 1, 3] bcast_S16x4096x128_S16x4096x1x128_0_1_3 (DIFF3 u)⟩] concatenates_S16x4096x1x128_S16x4096x1x128_S16x4096x1x128_S16x4096x1x128_S16x4096x4x128_d2

/-- The pooled lanes, weighted and scaled. -/
def POOLED : FVec Ideal S16x4096x512 .f32 :=
  mulf (shapeCast _ (transpose S16x4096x4x128 [2, 3, 0, 1] (Host.dotGeneral dot_S4x128x128_S16x4096x4x128_S4x128x16x4096_1_3_2_01_0_2 none W (DIFFS u)) transposes_S4x128x16x4096_S16x4096x4x128_2_3_0_1) shapeCasts_S16x4096x4x128_S16x4096x512) (broadcastInDim S16x4096x512 ![0, 1, 2] bcast_S1x1x512_S16x4096x512_0_1_2 (broadcastInDim S1x1x512 ![2] bcast_S512_S1x1x512_2 sc))

/-- Both kinds of lanes, side by side. -/
def CAT : FVec Ideal S16x4096x1024 .f32 :=
  concatenate S16x4096x1024 2 [⟨S16x4096x512, POOLED u W sc⟩, ⟨S16x4096x512, (extf .f32 a bitsLt_bf16_f32)⟩] concatenates_S16x4096x512_S16x4096x512_S16x4096x1024_d2

/-- The residual and the mixed lanes. -/
def MIXED : FVec Ideal S16x4096x1024 .f32 :=
  addf (mulf (broadcastInDim S16x4096x1024 ![] bcast_S_S16x4096x1024 (constant S_ .f32 0x3F9837F0#32)) (NORM x g b)) (Host.dotGeneral dot_S16x4096x1024_S1024x1024_S16x4096x1024_2_0_01_1_n_n none (CAT u a W sc) wo)

/-- The router's logits, their exponentials below the greatest, and the affinities. -/
def LOGITS : FVec Ideal S16x4096x16 .f32 :=
  Host.dotGeneral dot_S16x4096x1024_S1024x16_S16x4096x16_2_0_01_1_n_n none h rt

def EXPS (l : FVec Ideal S16x4096x16 .f32) : FVec Ideal S16x4096x16 .f32 :=
  Host.exp (subf l (broadcastInDim S16x4096x16 ![0, 1, 2] bcast_S16x4096x1_S16x4096x16_0_1_2 (broadcastInDim S16x4096x1 ![0, 1] bcast_S16x4096_S16x4096x1_0_1 (maximumf (broadcastInDim S16x4096 ![] bcast_S_S16x4096 (constant S_ .f32 0xFF800000#32)) (Host.reduce FloatOps.maximumf l (constant S_ .f32 0xFF800000#32) reducesTo_S16x4096x16_S16x4096_d2 h_S_)))))

def AFF (l : FVec Ideal S16x4096x16 .f32) : FVec Ideal S16x4096x16 .f32 :=
  Host.divf (EXPS l) (broadcastInDim S16x4096x16 ![0, 1, 2] bcast_S16x4096x1_S16x4096x16_0_1_2 (broadcastInDim S16x4096x1 ![0, 1] bcast_S16x4096_S16x4096x1_0_1 (Host.reduceAdd (EXPS l) (constant S_ .f32 0x00000000#32) reducesTo_S16x4096x16_S16x4096_d2 h_S_)))

theorem mean_apply (n : Fin 16) (s : Fin 4096) : MEAN h (ix3 n s 0) = mean (fun k : Fin 1024 => h (ix3 n s k)) := by
  pointwise [MEAN]
  rfl

theorem centred_apply (n : Fin 16) (s : Fin 4096) (k : Fin 1024) :
    CENTRED h (ix3 n s k) = h (ix3 n s k) - mean (fun k : Fin 1024 => h (ix3 n s k)) := by
  pointwise [CENTRED, mean_apply]

theorem norm_apply (n : Fin 16) (s : Fin 4096) (k : Fin 1024) :
    NORM h g b (ix3 n s k) = normed (fun k : Fin 1024 => h (ix3 n s k)) (g (ix1 k)) (b (ix1 k)) k := by
  pointwise [NORM, mean_apply, centred_apply]
  rfl

theorem aff_apply (l : FVec Ideal S16x4096x16 .f32) (n : Fin 16) (s : Fin 4096) (e : Fin 16) :
    AFF l (ix3 n s e) = softmax (fun e => l (ix3 n s e)) e := by
  pointwise [AFF, EXPS]
  rw [show Ideal.ofBits .f32 4286578688#32 = (⊥ : EReal) from Cert.Softmax.ofBits_bot]
  simp only [max_eq_right bot_le]
  rfl

theorem logits_apply (n : Fin 16) (s : Fin 4096) (e : Fin 16) :
    LOGITS h rt (ix3 n s e) = ∑ j : Fin 1024, h (ix3 n s j) * rt (ix2 j e) := by
  pointwise [LOGITS]

theorem upad_apply (n : Fin 16) (p : Fin 4112) (l : Fin 512) :
    UPAD u (ix3 n p l) = padded (fun s => u (ix3 n s l)) p.val := by
  unfold padded
  pointwise [UPAD]
  split
  · rw [dif_pos (by omega)]
  · rw [dif_neg (by omega)]
    show (((0#32 : BitVec 32).toInt : ℝ) : EReal) = 0
    simp

/-- The counts by clipped bounds are the counts by bounds cut off at their far ends. -/
theorem clipped : ∀ (g : Fin 4) (s : Fin 4096),
    IntOp.addi (IntOp.subi (IntOp.minsi 4095#32 (IntOp.maxsi 0#32 (IntOp.subi (IntOp.addi (BitVec.ofNat 32 s.val) (half g)) 1#32)))
      (IntOp.minsi 4095#32 (IntOp.maxsi 0#32 (IntOp.subi (BitVec.ofNat 32 s.val) (half g))))) 1#32 = count g (BitVec.ofNat 32 s.val) := by
  decide +kernel

theorem count_apply (g : Fin 4) (n : Fin 16) (s : Fin 4096) (l : Fin 128) :
    COUNT (half g) (ix3 n s l) = FloatOps.sitofp (F := Ideal) .f32 (count g (BitVec.ofNat 32 s.val)) := by
  pointwise [COUNT]
  exact congrArg _ (clipped g s)

/-- A token's neighbours on a lane. -/
abbrev near (n : Fin 16) (s : Fin 4096) (l : Fin 512) (e : Fin 16) : EReal := padded (fun s => u (ix3 n s l)) (e.val + s.val)

theorem diffs_apply (n : Fin 16) (s : Fin 4096) (k : Fin 4) (c : Fin 128) :
    DIFFS u (ix4 n s k c) = diff k (near u n s ⟨k.val * 128 + c.val, by omega⟩) (FloatOps.sitofp (F := Ideal) .f32 (count k (BitVec.ofNat 32 s.val))) := by
  rw [← count_apply k n s c]
  unfold diff
  rw [show near u n s ⟨k.val * 128 + c.val, by omega⟩ 8 = u (ix3 n s ⟨k.val * 128 + c.val, by omega⟩) from padded_self _ s]
  obtain rfl | rfl | rfl | rfl : k = 0 ∨ k = 1 ∨ k = 2 ∨ k = 3 := by omega
  · pointwise [DIFFS, DIFF0, upad_apply]
    rfl
  · pointwise [DIFFS, DIFF1, upad_apply]
    rfl
  · pointwise [DIFFS, DIFF2, upad_apply]
    rfl
  · pointwise [DIFFS, DIFF3, upad_apply]
    simp only [window, near, Fin.isValue, Fin.coe_ofNat_eq_mod, Nat.zero_mod, zero_add] <;> rfl

theorem pooled_apply (n : Fin 16) (s : Fin 4096) (k : Fin 4) (d : Fin 128) :
    POOLED u W sc (ix3 n s ⟨k.val * 128 + d.val, by omega⟩)
      = (∑ c : Fin 128, W (ix3 k c d) * DIFFS u (ix4 n s k c)) * sc (ix1 ⟨k.val * 128 + d.val, by omega⟩) := by
  pointwise [POOLED]

theorem cat_pooled (n : Fin 16) (s : Fin 4096) (l : Fin 512) : CAT u a W sc (ix3 n s ⟨l.val, by omega⟩) = POOLED u W sc (ix3 n s l) := by
  pointwise [CAT]

theorem cat_attn (n : Fin 16) (s : Fin 4096) (l : Fin 512) : CAT u a W sc (ix3 n s ⟨512 + l.val, by omega⟩) = a (ix3 n s l) := by
  pointwise [CAT]

theorem mixed_apply (n : Fin 16) (s : Fin 4096) (j : Fin 1024) :
    MIXED x u a g b W sc wo (ix3 n s j)
      = mixed (normed (fun k : Fin 1024 => x (ix3 n s k)) (g (ix1 j)) (b (ix1 j)) j) (fun k => a (ix3 n s k)) (near u n s)
          (fun k => FloatOps.sitofp (F := Ideal) .f32 (count k (BitVec.ofNat 32 s.val))) (fun k c d => W (ix3 k c d)) (fun l => sc (ix1 l))
          (fun k => wo (ix2 k j)) := by
  pointwise [MIXED, norm_apply]
  refine mixed_eq _ _ _ _ _ _ _ (fun k => CAT u a W sc (ix3 n s k)) (cat_attn u a W sc n s) fun k d => ?_
  refine (cat_pooled u a W sc n s ⟨k.val * 128 + d.val, by omega⟩).trans ((pooled_apply u W sc n s k d).trans ?_)
  simp only [diffs_apply]

variable (m : (ℓ : Loc nD τ sig) → Buf (Elt Ideal) ℓ) (c : Dev nD)

/-- The reference's first result on its arguments. -/
abbrev R : FVec Ideal S16x4096x1024 .f32 :=
  NORM (MIXED (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9))

theorem x_eq : Value.res_main_v190 (launchContents m c) = R m c := by
  unfold Value.res_main_v190 R NORM CENTRED MEAN MIXED CAT POOLED DIFFS DIFF0 DIFF1 DIFF2 DIFF3 COUNT UPAD NORM CENTRED MEAN
  rfl

theorem aff_eq : Host.divf (Value.res_main_v198 (launchContents m c)) (broadcastInDim S16x4096x16 ![0, 1, 2] bcast_S16x4096x1_S16x4096x16_0_1_2 (broadcastInDim S16x4096x1 ![0, 1] bcast_S16x4096_S16x4096x1_0_1 (Host.reduceAdd (Value.res_main_v198 (launchContents m c)) (constant S_ .f32 0x00000000#32) reducesTo_S16x4096x16_S16x4096_d2 h_S_)))
    = AFF (LOGITS (R m c) (m ((c.tc : Thread nD τ).loc main_arg10))) := by
  unfold AFF EXPS LOGITS Value.res_main_v198 Value.res_main_v191
  rw [x_eq]

end Cert.Reference4Ideal.Mix

end
-- ==== Proof.MixFinal.lean ====
/-
  The mixing kernel's three results are the reference's.
-/
module

public import proofs.«01_k».proof.Proof.MixBody
public import proofs.«01_k».proof.Proof.MixRef
public import proofs.«01_k».proof.Proof.Gen.Kernel4Ideal.Value
public import Idealize.ShloMosaic.Lib.Pipeline.ValueKit

@[expose] public section

set_option maxRecDepth 16384

noncomputable section

namespace Cert.Proof.Mix

open Cert.Kernel4Ideal Cert.Kernel4Ideal.Gen Cert.Proof.Moe
open Idealize.ShloMosaic Idealize.ShloMosaic.TcCoe Idealize.SL.Sem
open Idealize.ShloMosaic.Pipeline (Dat)
open Cert.Reference4Ideal.Mix (MIXED NORM AFF LOGITS near)

variable (m : (ℓ : Loc nD τ sig) → Buf (Elt Ideal) ℓ) (c : Dev nD)

/-! ## The arguments, and the arrays the launch finds -/

abbrev argX : FVec Ideal S16x4096x1024 .f32 := m (c, Proc.tc.devRef main_arg0)
abbrev argU : FVec Ideal S16x4096x512 .f32 := m (c, Proc.tc.devRef main_arg1)
abbrev argA : FVec Ideal S16x4096x512 .bf16 := m (c, Proc.tc.devRef main_arg2)
abbrev argG : FVec Ideal S1024 .f32 := m (c, Proc.tc.devRef main_arg3)
abbrev argB : FVec Ideal S1024 .f32 := m (c, Proc.tc.devRef main_arg4)
abbrev argW : FVec Ideal S4x128x128 .f32 := m (c, Proc.tc.devRef main_arg5)
abbrev argS : FVec Ideal S512 .f32 := m (c, Proc.tc.devRef main_arg6)
abbrev argO : FVec Ideal S1024x1024 .f32 := m (c, Proc.tc.devRef main_arg7)
abbrev argG' : FVec Ideal S1024 .f32 := m (c, Proc.tc.devRef main_arg8)
abbrev argB' : FVec Ideal S1024 .f32 := m (c, Proc.tc.devRef main_arg9)
abbrev argR : FVec Ideal S1024x16 .f32 := m (c, Proc.tc.devRef main_arg10)

/-- The reference's tokens before and after their last layer norm, of the kernel's arguments. -/
abbrev M : FVec Ideal Cert.Reference4Ideal.S16x4096x1024 .f32 :=
  MIXED (argX m c) (argU m c) (argA m c) (argG m c) (argB m c) (argW m c) (argS m c) (argO m c)
abbrev N : FVec Ideal Cert.Reference4Ideal.S16x4096x1024 .f32 := NORM (M m c) (argG' m c) (argB' m c)

theorem g_entry : V m c main_v0 = shapeCast S1x1024 (argG m c) shapeCasts_S1024_S1x1024 := by
  unfold V
  rfl
theorem b_entry : V m c main_v1 = shapeCast S1x1024 (argB m c) shapeCasts_S1024_S1x1024 := by
  unfold V
  rfl
theorem w_entry : (V m c main_v2 : FVec Ideal S4x128x128 .bf16) = argW m c := by
  unfold V
  rfl
theorem s_entry : V m c main_v3 = shapeCast S1x512 (argS m c) shapeCasts_S512_S1x512 := by
  unfold V
  rfl
theorem o_entry : (V m c main_v4 : FVec Ideal S1024x1024 .bf16) = argO m c := by
  unfold V
  rfl
theorem g'_entry : V m c main_v5 = shapeCast S1x1024 (argG' m c) shapeCasts_S1024_S1x1024 := by
  unfold V
  rfl
theorem b'_entry : V m c main_v6 = shapeCast S1x1024 (argB' m c) shapeCasts_S1024_S1x1024 := by
  unfold V
  rfl

/-! ## The blocks -/

theorem point_lt (t : Fin cfg0.N) : t.val < 128 := lt_of_lt_of_eq t.isLt (by decide)

theorem tile_index : ∀ t : Fin cfg0.N, win0_0.index t = ![t.val / 8, t.val % 8, 0] ∧ win0_1.index t = ![t.val / 8, t.val % 8 * 64 - 1, 0]
      ∧ win0_2.index t = ![t.val / 8, t.val % 8, 0] ∧ win0_3.index t = ![t.val / 8, min (t.val % 8 * 64 + 64) 511, 0] ∧ win0_4.index t = ![t.val / 8, t.val % 8, 0]
      ∧ win0_13.index t = ![t.val / 8, t.val % 8, 0] ∧ win0_14.index t = ![t.val / 8, t.val % 8, 0] ∧ win0_15.index t = ![t.val / 8, t.val % 8, 0] :=
  (by decide +kernel : ∀ t : Fin grid0.N, win0_0.index t = ![t.val / 8, t.val % 8, 0] ∧ win0_1.index t = ![t.val / 8, t.val % 8 * 64 - 1, 0]
      ∧ win0_2.index t = ![t.val / 8, t.val % 8, 0] ∧ win0_3.index t = ![t.val / 8, min (t.val % 8 * 64 + 64) 511, 0] ∧ win0_4.index t = ![t.val / 8, t.val % 8, 0]
      ∧ win0_13.index t = ![t.val / 8, t.val % 8, 0] ∧ win0_14.index t = ![t.val / 8, t.val % 8, 0] ∧ win0_15.index t = ![t.val / 8, t.val % 8, 0])

theorem whole_index : ∀ t : Fin cfg0.N, win0_5.index t = ![0, 0] ∧ win0_6.index t = ![0, 0] ∧ win0_7.index t = ![0, 0, 0] ∧ win0_8.index t = ![0, 0]
      ∧ win0_9.index t = ![0, 0] ∧ win0_10.index t = ![0, 0] ∧ win0_11.index t = ![0, 0] ∧ win0_12.index t = ![0, 0] :=
  (by decide +kernel : ∀ t : Fin grid0.N, win0_5.index t = ![0, 0] ∧ win0_6.index t = ![0, 0] ∧ win0_7.index t = ![0, 0, 0] ∧ win0_8.index t = ![0, 0]
      ∧ win0_9.index t = ![0, 0] ∧ win0_10.index t = ![0, 0] ∧ win0_11.index t = ![0, 0] ∧ win0_12.index t = ![0, 0])

theorem coords_tile : ∀ t : Fin cfg0.N, (grid0.coords t 1).val = t.val % 8 :=
  (by decide +kernel : ∀ t : Fin grid0.N, (grid0.coords t 1).val = t.val % 8)

/-- A point's batch, and the place of its tile's row. -/
def batch (t : Fin cfg0.N) : Fin 16 := ⟨t.val / 8, by have := point_lt t; omega⟩
def place (t : Fin cfg0.N) (r : Fin 512) : Fin 4096 := ⟨t.val % 8 * 512 + r.val, by omega⟩

variable (t : Fin cfg0.N)

theorem x_block (r : Fin 512) (k : Fin 1024) :
    (iblk m c 0 t : FVec Ideal S1x512x1024 .f32) (ix3 0 r k) = argX m c (ix3 (batch t) (place t r) k) := by
  refine Eq.trans (b := (V m c main_arg0 : FVec Ideal S16x4096x1024 .f32) (ix3 (batch t) (place t r) k)) ?_ (congrFun (V_main_arg0 m c) _)
  unfold batch place
  blk_ext [iblk, (tile_index t).1]

theorem before_block (a : Fin 8) (l : Fin 512) :
    (iblk m c 1 t : FVec Ideal S1x8x512 .f32) (ix3 0 a l) = argU m c (ix3 (batch t) ⟨(t.val % 8 * 64 - 1) * 8 + a.val, by omega⟩ l) := by
  refine Eq.trans (b := (V m c main_arg1 : FVec Ideal S16x4096x512 .f32) (ix3 (batch t) ⟨(t.val % 8 * 64 - 1) * 8 + a.val, by omega⟩ l)) ?_ (congrFun (V_main_arg1 m c) _)
  unfold batch
  blk_ext [iblk, (tile_index t).2.1]

theorem u_block (r l : Fin 512) : (iblk m c 2 t : FVec Ideal S1x512x512 .f32) (ix3 0 r l) = argU m c (ix3 (batch t) (place t r) l) := by
  refine Eq.trans (b := (V m c main_arg1 : FVec Ideal S16x4096x512 .f32) (ix3 (batch t) (place t r) l)) ?_ (congrFun (V_main_arg1 m c) _)
  unfold batch place
  blk_ext [iblk, (tile_index t).2.2.1]

theorem after_block (a : Fin 8) (l : Fin 512) :
    (iblk m c 3 t : FVec Ideal S1x8x512 .f32) (ix3 0 a l) = argU m c (ix3 (batch t) ⟨min (t.val % 8 * 64 + 64) 511 * 8 + a.val, by omega⟩ l) := by
  refine Eq.trans (b := (V m c main_arg1 : FVec Ideal S16x4096x512 .f32) (ix3 (batch t) ⟨min (t.val % 8 * 64 + 64) 511 * 8 + a.val, by omega⟩ l)) ?_ (congrFun (V_main_arg1 m c) _)
  unfold batch
  blk_ext [iblk, (tile_index t).2.2.2.1]

theorem a_block (r l : Fin 512) : (iblk m c 4 t : FVec Ideal S1x512x512 .bf16) (ix3 0 r l) = argA m c (ix3 (batch t) (place t r) l) := by
  refine Eq.trans (b := (V m c main_arg2 : FVec Ideal S16x4096x512 .bf16) (ix3 (batch t) (place t r) l)) ?_ (congrFun (V_main_arg2 m c) _)
  unfold batch place
  blk_ext [iblk, (tile_index t).2.2.2.2.1]

theorem g_block (k : Fin 1024) : (iblk m c 5 t : FVec Ideal S1x1024 .f32) (ix2 0 k) = argG m c (ix1 k) := by
  refine Eq.trans (b := (V m c main_v0 : FVec Ideal S1x1024 .f32) (ix2 0 k)) ?_ ((congrFun (g_entry m c) _).trans (by pointwise))
  blk_ext [iblk, (whole_index t).1]

theorem b_block (k : Fin 1024) : (iblk m c 6 t : FVec Ideal S1x1024 .f32) (ix2 0 k) = argB m c (ix1 k) := by
  refine Eq.trans (b := (V m c main_v1 : FVec Ideal S1x1024 .f32) (ix2 0 k)) ?_ ((congrFun (b_entry m c) _).trans (by pointwise))
  blk_ext [iblk, (whole_index t).2.1]

theorem w_block (k : Fin 4) (a d : Fin 128) : (iblk m c 7 t : FVec Ideal S4x128x128 .bf16) (ix3 k a d) = argW m c (ix3 k a d) := by
  refine Eq.trans (b := (V m c main_v2 : FVec Ideal S4x128x128 .bf16) (ix3 k a d)) ?_ (congrFun (w_entry m c) _)
  blk_ext [iblk, (whole_index t).2.2.1]

theorem s_block (k : Fin 512) : (iblk m c 8 t : FVec Ideal S1x512 .f32) (ix2 0 k) = argS m c (ix1 k) := by
  refine Eq.trans (b := (V m c main_v3 : FVec Ideal S1x512 .f32) (ix2 0 k)) ?_ ((congrFun (s_entry m c) _).trans (by pointwise))
  blk_ext [iblk, (whole_index t).2.2.2.1]

theorem o_block (k j : Fin 1024) : (iblk m c 9 t : FVec Ideal S1024x1024 .bf16) (ix2 k j) = argO m c (ix2 k j) := by
  refine Eq.trans (b := (V m c main_v4 : FVec Ideal S1024x1024 .bf16) (ix2 k j)) ?_ (congrFun (o_entry m c) _)
  blk_ext [iblk, (whole_index t).2.2.2.2.1]

theorem g'_block (k : Fin 1024) : (iblk m c 10 t : FVec Ideal S1x1024 .f32) (ix2 0 k) = argG' m c (ix1 k) := by
  refine Eq.trans (b := (V m c main_v5 : FVec Ideal S1x1024 .f32) (ix2 0 k)) ?_ ((congrFun (g'_entry m c) _).trans (by pointwise))
  blk_ext [iblk, (whole_index t).2.2.2.2.2.1]

theorem b'_block (k : Fin 1024) : (iblk m c 11 t : FVec Ideal S1x1024 .f32) (ix2 0 k) = argB' m c (ix1 k) := by
  refine Eq.trans (b := (V m c main_v6 : FVec Ideal S1x1024 .f32) (ix2 0 k)) ?_ ((congrFun (b'_entry m c) _).trans (by pointwise))
  blk_ext [iblk, (whole_index t).2.2.2.2.2.2.1]

theorem r_block (k : Fin 1024) (e : Fin 16) : (iblk m c 12 t : FVec Ideal S1024x16 .f32) (ix2 k e) = argR m c (ix2 k e) := by
  refine Eq.trans (b := (V m c main_arg10 : FVec Ideal S1024x16 .f32) (ix2 k e)) ?_ (congrFun (V_main_arg10 m c) _)
  blk_ext [iblk, (whole_index t).2.2.2.2.2.2.2]

theorem x_emb (r : Fin 512) (j : Fin 1024) :
    ((win0_13.blk t).view.emb (ix3 0 r j : S1x512x1024.Idx) : S16x4096x1024.Idx) = ix3 (batch t) (place t r) j := by
  unfold batch place
  blk_ext [(tile_index t).2.2.2.2.2.1]

theorem xb_emb (r : Fin 512) (j : Fin 1024) :
    ((win0_14.blk t).view.emb (ix3 0 r j : S1x512x1024.Idx) : S16x4096x1024.Idx) = ix3 (batch t) (place t r) j := by
  unfold batch place
  blk_ext [(tile_index t).2.2.2.2.2.2.1]

theorem aff_emb (r : Fin 512) (e : Fin 16) :
    ((win0_15.blk t).view.emb (ix3 0 r e : S1x512x16.Idx) : S16x4096x16.Idx) = ix3 (batch t) (place t r) e := by
  unfold batch place
  blk_ext [(tile_index t).2.2.2.2.2.2.2]

/-! ## The rows a tile gathers -/

theorem select_before (a : EReal) : ∀ j : Fin 8, Scalar.select (Scalar.cmpi .sgt (BitVec.ofNat 32 j.val) 0#32) a 0 = if 0 < j.val then a else 0 := by
  intro j
  fin_cases j <;> rfl

theorem select_after (a : EReal) : ∀ j : Fin 8, Scalar.select (Scalar.cmpi .slt (BitVec.ofNat 32 j.val) 7#32) a 0 = if j.val < 7 then a else 0 := by
  intro j
  fin_cases j <;> rfl

/-- The tile's rows and the eight on either side are the row's neighbours, zero beyond the ends. -/
theorem scratch_near (r : Fin 512) (l : Fin 512) (e : Fin 16) :
    scratch (BitVec.ofNat 32 (grid0.coords t 1).val) (iblk m c 1 t) (iblk m c 2 t) (iblk m c 3 t) (ix2 ⟨e.val + r.val, by omega⟩ l)
      = near (argU m c) (batch t) (place t r) l e := by
  rw [coords_tile]
  unfold near padded
  have hp : e.val + (place t r).val = t.val % 8 * 512 + (e.val + r.val) := by unfold place; dsimp only; omega
  by_cases h : e.val + r.val < 8
  · refine Eq.trans (dif_pos h) ((select_before _ ⟨t.val % 8, by omega⟩).trans ?_)
    by_cases hj : 0 < t.val % 8
    · refine (if_pos hj).trans ((before_block m c t ⟨e.val + r.val, h⟩ l).trans (Eq.symm ((dif_pos (by omega)).trans ?_)))
      exact congrArg (fun s => argU m c (ix3 (batch t) s l)) (Fin.ext (by dsimp only; omega))
    · refine (if_neg hj).trans ?_
      rw [dif_neg (show ¬(8 ≤ e.val + (place t r).val ∧ e.val + (place t r).val < 4104) by omega)]
  · refine Eq.trans (dif_neg h) ?_
    by_cases h' : e.val + r.val < 520
    · refine Eq.trans (dif_pos h') ((u_block m c t ⟨e.val + r.val - 8, by omega⟩ l).trans (Eq.symm ((dif_pos (by omega)).trans ?_)))
      exact congrArg (fun s => argU m c (ix3 (batch t) s l)) (Fin.ext (by unfold place; dsimp only; omega))
    · refine Eq.trans (dif_neg h') ((select_after _ ⟨t.val % 8, by omega⟩).trans ?_)
      by_cases hj : t.val % 8 < 7
      · refine (if_pos hj).trans ((after_block m c t ⟨e.val + r.val - 520, by omega⟩ l).trans (Eq.symm ((dif_pos (by omega)).trans ?_)))
        exact congrArg (fun s => argU m c (ix3 (batch t) s l)) (Fin.ext (by dsimp only; omega))
      · refine (if_neg hj).trans ?_
        rw [dif_neg (show ¬(8 ≤ e.val + (place t r).val ∧ e.val + (place t r).val < 4104) by omega)]

/-- A row's place, as the body computes it. -/
theorem word_place : ∀ (j : Fin 8) (r : Fin 512), IntOp.addi (IntOp.muli (BitVec.ofNat 32 j.val) 512#32) (BitVec.ofNat 32 r.val) = BitVec.ofNat 32 (j.val * 512 + r.val) := by
  decide +kernel

theorem row_block (r : Fin 512) (j : Fin 1024) :
    row (BitVec.ofNat 32 (grid0.coords t 1).val) (scratch (BitVec.ofNat 32 (grid0.coords t 1).val) (iblk m c 1 t) (iblk m c 2 t) (iblk m c 3 t))
        (iblk m c 0 t) (iblk m c 4 t) (iblk m c 5 t) (iblk m c 6 t) (iblk m c 7 t) (iblk m c 8 t) (iblk m c 9 t) r j
      = M m c (ix3 (batch t) (place t r) j) := by
  refine Eq.trans ?_ (Cert.Reference4Ideal.Mix.mixed_apply _ _ _ _ _ _ _ _ _ _ j).symm
  unfold row
  have hw : IntOp.addi (IntOp.muli (BitVec.ofNat 32 (grid0.coords t 1).val) 512#32) (BitVec.ofNat 32 r.val) = BitVec.ofNat 32 (place t r).val := by
    rw [coords_tile]
    exact word_place ⟨t.val % 8, by omega⟩ r
  rw [hw, funext fun k => x_block m c t r k, funext fun k => a_block m c t r k, funext fun l => funext fun e => scratch_near m c t r l e, g_block, b_block,
    funext fun k => funext fun a => funext fun d => w_block m c t k a d, funext fun l => s_block m c t l, funext fun k => o_block m c t k j]

/-- What a point leaves in the three outputs, from the reference's tokens on its rows. -/
theorem outs_block : ∃ v : FVec Ideal S512x1024 .f32,
    (∀ r j, v (ix2 r j) = M m c (ix3 (batch t) (place t r) j))
    ∧ (∀ y, (outsAt0 m c t).1 y = k0_pay25 (F := Ideal) v (k0_pay22 (F := Ideal) (iblk m c 10 t)) (k0_pay23 (F := Ideal) (iblk m c 11 t)) y)
    ∧ (∀ y, (outsAt0 m c t).2.1 y = k0_pay26 (F := Ideal) v (k0_pay22 (F := Ideal) (iblk m c 10 t)) (k0_pay23 (F := Ideal) (iblk m c 11 t)) y)
    ∧ (∀ y, (outsAt0 m c t).2.2 y = k0_pay1 (F := Ideal) (k0_pay27 (F := Ideal) v (k0_pay22 (F := Ideal) (iblk m c 10 t)) (k0_pay23 (F := Ideal) (iblk m c 11 t)) (iblk m c 12 t)) y) := by
  obtain ⟨v, hv, h⟩ := outs_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  unfold outsAt0
  dsimp only
  exact ⟨v, fun r j => (hv r j).trans (row_block m c t r j), h⟩

/-- The last layer norm, on the block. -/
theorem norm_block (v : FVec Ideal S512x1024 .f32) (hv : ∀ r j, v (ix2 r j) = M m c (ix3 (batch t) (place t r) j)) (r : Fin 512) (j : Fin 1024) :
    normed (fun k : Fin 1024 => v (ix2 r k)) ((iblk m c 10 t : FVec Ideal S1x1024 .f32) (ix2 0 j)) ((iblk m c 11 t : FVec Ideal S1x1024 .f32) (ix2 0 j)) j
      = N m c (ix3 (batch t) (place t r) j) := by
  refine Eq.trans ?_ (Cert.Reference4Ideal.Mix.norm_apply _ _ _ _ _ _).symm
  rw [funext fun k => hv r k, g'_block, b'_block]

/-! ## The results -/

theorem x_final : (dats m 0 c).arrAt 13 cfg0.N = N m c := by
  refine (dats m 0 c).arrAt_eq_of_covers 13 _ (by decide +kernel) fun t _ y => ?_
  blk_simp [(tile_index t).2.2.2.2.2.1]
  rw [after0_13]
  obtain ⟨r, j, rfl⟩ : ∃ (r : Fin 512) (j : Fin 1024), y = (ix3 0 r j : S1x512x1024.Idx) :=
    ⟨y 1, y 2, (eq_ix3 (n0 := 1) (n1 := 512) (n2 := 1024) y).trans (congrArg (fun a : Fin 1 => (ix3 a (y 1) (y 2) : S1x512x1024.Idx)) (Subsingleton.elim _ _))⟩
  obtain ⟨v, hv, h, -⟩ := outs_block m c t
  refine (h _).trans ((pay25_apply v _ _ r j).trans (Eq.trans ?_ (congrArg _ (x_emb t r j)).symm))
  exact norm_block m c t v hv r j

theorem xb_final : (dats m 0 c).arrAt 14 cfg0.N = truncf (F := Ideal) .bf16 (N m c) bitsLt_bf16_f32 := by
  refine (dats m 0 c).arrAt_eq_of_covers 14 _ (by decide +kernel) fun t _ y => ?_
  blk_simp [(tile_index t).2.2.2.2.2.2.1]
  rw [after0_14]
  obtain ⟨r, j, rfl⟩ : ∃ (r : Fin 512) (j : Fin 1024), y = (ix3 0 r j : S1x512x1024.Idx) :=
    ⟨y 1, y 2, (eq_ix3 (n0 := 1) (n1 := 512) (n2 := 1024) y).trans (congrArg (fun a : Fin 1 => (ix3 a (y 1) (y 2) : S1x512x1024.Idx)) (Subsingleton.elim _ _))⟩
  obtain ⟨v, hv, -, h, -⟩ := outs_block m c t
  refine (h _).trans ((pay26_apply v _ _ r j).trans (Eq.trans ?_ (congrArg _ (xb_emb t r j)).symm))
  exact norm_block m c t v hv r j

theorem aff_final : (dats m 0 c).arrAt 15 cfg0.N = AFF (LOGITS (N m c) (argR m c)) := by
  refine (dats m 0 c).arrAt_eq_of_covers 15 _ (by decide +kernel) fun t _ y => ?_
  blk_simp [(tile_index t).2.2.2.2.2.2.2]
  rw [after0_15]
  obtain ⟨r, e, rfl⟩ : ∃ (r : Fin 512) (e : Fin 16), y = (ix3 0 r e : S1x512x16.Idx) :=
    ⟨y 1, y 2, (eq_ix3 (n0 := 1) (n1 := 512) (n2 := 16) y).trans (congrArg (fun a : Fin 1 => (ix3 a (y 1) (y 2) : S1x512x16.Idx)) (Subsingleton.elim _ _))⟩
  obtain ⟨v, hv, -, -, h⟩ := outs_block m c t
  refine (h _).trans ((pay27_apply v _ _ _ r e).trans (Eq.trans ?_ (congrArg _ (aff_emb t r e)).symm))
  refine Eq.trans ?_ (Cert.Reference4Ideal.Mix.aff_apply _ _ _ _).symm
  refine congrArg (fun L => softmax L e) (funext fun e => Eq.trans ?_ (Cert.Reference4Ideal.Mix.logits_apply _ _ _ _ e).symm)
  exact Finset.sum_congr rfl fun j _ => Ideal.mul_congr (norm_block m c t v hv r j) (r_block m c t j e)

end Cert.Proof.Mix

end
-- ==== Proof.lean ====
/-
  The certificate's claims, assembled: the frames, the unchanged programs, and the four value claims: the attention's, the experts',
  the projections' and the mixing's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.AttnFinal
public import proofs.«01_k».proof.Proof.AttnFinite
public import proofs.«01_k».proof.Proof.MoeExact
public import proofs.«01_k».proof.Proof.MoeFinal
public import proofs.«01_k».proof.Proof.MoeGates
public import proofs.«01_k».proof.Proof.ProjFinal
public import proofs.«01_k».proof.Proof.MixFinal
public import Idealize.ShloMosaic.Adequacy
public import Idealize.ShloMosaic.Init

@[expose] public section

noncomputable section

namespace Cert.Proof

open Idealize.ShloMosaic Idealize.SL.Sem

/-- The reference runs, keeps its arguments and has no semaphore. -/
theorem reference_frame : quiescent_ReferenceIdeal (hReferenceIdeal := Cert.ReferenceIdeal.Gen.facts) :=
  fun m g _ => (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m g)

/-- The attention kernel computes the reference's attention wherever queries and keys are finite. -/
theorem attention : algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hagree
  refine ⟨fun c => (Cert.KernelIdeal.Gen.dats m 0 c).arrAt 3 Cert.KernelIdeal.cfg0.N, Cert.KernelIdeal.Value.run_blocks m g, ?_⟩
  refine (θ_run (Cert.ReferenceIdeal.defs (F := Ideal)) _ _).mono (fun r h c => ⟨(h c).1.trans ?_, (h c).2⟩)
    (Cert.ReferenceIdeal.Value.run (F := Ideal) m' g')
  obtain ⟨a0, a1, a2, a3, a4⟩ := hagree c
  obtain ⟨p0, p1, p2, p3⟩ := hpre c
  refine Eq.trans ?_ (Cert.KernelIdeal.Attn.final m c (Cert.Pre_finite_scores.scores_real _ _ _ _ _ p0 p1 p2 p3)).symm
  rw [a0, a1, a2, a3, a4]
  rfl

theorem reference2_frame : quiescent_Reference2Ideal (hReference2Ideal := Cert.Reference2Ideal.Gen.facts) :=
  fun m g _ => (θ_run (Cert.Reference2Ideal.defs (F := Ideal)) _ _).mono
    (fun r h => And.intro (fun c => (h c).2) (Idealize.ShloMosaic.sem_eq_zero_of_no_sems (by decide) r.2))
    (Cert.Reference2Ideal.Value.run (F := Ideal) m g)

/-- The experts' kernel computes the reference's experts and layer norm wherever no gate is negative. -/
theorem experts : algebraic_Kernel2Ideal_Reference2Ideal_pre_gates_nonneg (hKernel2Ideal := Cert.Kernel2Ideal.Gen.facts)
    (hReference2Ideal := Cert.Reference2Ideal.Gen.facts) (hPre_gates_nonneg := Cert.Pre_gates_nonneg.facts) := by
  intro m g m' g' hpre hagree
  refine ⟨fun c => (Moe.dats m 0 c).arrAt 8 Cert.Kernel2Ideal.cfg0.N,
    (θ_run (Cert.Kernel2Ideal.defs (F := Ideal)) _ _).mono (fun r h c => ⟨(h.1 c).1 8, h.2.1 c⟩) (θ_run_and (Moe.run m g) (Moe.frame m g)), ?_⟩
  refine (θ_run (Cert.Reference2Ideal.defs (F := Ideal)) _ _).mono (fun r h c => ⟨(h c).1.trans ?_, (h c).2⟩)
    (Cert.Reference2Ideal.Value.run (F := Ideal) m' g')
  obtain ⟨a0, a1, a2, a3, a4, a5, a6⟩ := hagree c
  refine (Cert.Reference2Ideal.Moe.result_eq m' c).trans (Eq.trans ?_ (Moe.final m c (Cert.Pre_gates_nonneg.nonneg _ _ _ _ _ _ _ (hpre c))).symm)
  rw [a0, a1, a2, a3, a4, a5, a6]

theorem reference3_frame : quiescent_Reference3Ideal (hReference3Ideal := Cert.Reference3Ideal.Gen.facts) :=
  fun m g _ => (θ_run (Cert.Reference3Ideal.defs (F := Ideal)) _ _).mono
    (fun r h => And.intro (fun c => (h c).2.2.2.2) (Idealize.ShloMosaic.sem_eq_zero_of_no_sems (by decide) r.2))
    (Cert.Reference3Ideal.Value.run (F := Ideal) m g)

/-- The projection kernel computes the reference's projections, whatever its arguments. -/
theorem projection : algebraic_Kernel3Ideal_Reference3Ideal (hKernel3Ideal := Cert.Kernel3Ideal.Gen.facts)
    (hReference3Ideal := Cert.Reference3Ideal.Gen.facts) := by
  intro m g m' g' hpre hagree
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    Cert.Kernel3Ideal.Value.run_blocks m g, ?_⟩
  refine (θ_run (Cert.Reference3Ideal.defs (F := Ideal)) _ _).mono
    (fun r h c => ⟨(h c).1.trans ?_, (h c).2.1.trans ?_, (h c).2.2.1.trans ?_, (h c).2.2.2.1.trans ?_, (h c).2.2.2.2⟩)
    (Cert.Reference3Ideal.Value.run (F := Ideal) m' g')
  all_goals obtain ⟨a0, a1, a2, a3, a4, a5, a6, a7⟩ := hagree c
  · refine Eq.trans (b := Cert.Reference3Ideal.Proj.UOUT (Cert.Reference3Ideal.Proj.P m' c)) ?_ (Eq.trans ?_ (Proj.u_final m c).symm)
    · rfl
    · rw [Cert.Reference3Ideal.Proj.P, a0, a1, a2, a3]
  · refine (Cert.Reference3Ideal.Proj.q_eq m' c).trans (Eq.trans ?_ (Proj.q_final m c).symm)
    rw [Cert.Reference3Ideal.Proj.P, a0, a1, a2, a3, a4, a5]
  · refine (Cert.Reference3Ideal.Proj.k_eq m' c).trans (Eq.trans ?_ (Proj.k_final m c).symm)
    rw [Cert.Reference3Ideal.Proj.P, a0, a1, a2, a3, a6, a7]
  · refine (Cert.Reference3Ideal.Proj.v_eq m' c).trans (Eq.trans ?_ (Proj.v_final m c).symm)
    rw [Cert.Reference3Ideal.Proj.P, a0, a1, a2, a3, a6, a7]

theorem reference4_frame : quiescent_Reference4Ideal (hReference4Ideal := Cert.Reference4Ideal.Gen.facts) :=
  fun m g _ => (θ_run (Cert.Reference4Ideal.defs (F := Ideal)) _ _).mono
    (fun r h => And.intro (fun c => (h c).2.2.2) (Idealize.ShloMosaic.sem_eq_zero_of_no_sems (by decide) r.2))
    (Cert.Reference4Ideal.Value.run (F := Ideal) m g)

/-- The mixing kernel computes the reference's tokens, their copy and the affinities, whatever its arguments. -/
theorem mixing : algebraic_Kernel4Ideal_Reference4Ideal (hKernel4Ideal := Cert.Kernel4Ideal.Gen.facts)
    (hReference4Ideal := Cert.Reference4Ideal.Gen.facts) := by
  intro m g m' g' hpre hagree
  refine ⟨fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    Cert.Kernel4Ideal.Value.run_blocks m g, ?_⟩
  refine (θ_run (Cert.Reference4Ideal.defs (F := Ideal)) _ _).mono
    (fun r h c => ⟨(h c).1.trans ?_, (h c).2.1.trans ?_, (h c).2.2.1.trans ?_, (h c).2.2.2⟩)
    (Cert.Reference4Ideal.Value.run (F := Ideal) m' g')
  all_goals
    obtain ⟨a0, a1, a2, a3, a4, a5, a6, a7, a8, a9, a10⟩ := hagree c
    have hN : Cert.Reference4Ideal.Mix.R m' c = Mix.N m c := by
      rw [Cert.Reference4Ideal.Mix.R, a0, a1, a2, a3, a4, a5, a6, a7, a8, a9]
  · exact (Cert.Reference4Ideal.Mix.x_eq m' c).trans (hN.trans (Mix.x_final m c).symm)
  · rw [Cert.Reference4Ideal.Mix.x_eq, hN]
    exact (Mix.xb_final m c).symm
  · rw [Cert.Reference4Ideal.Mix.aff_eq, hN, a10]
    exact (Mix.aff_final m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_finite_scores.facts, Cert.Pre_gates_nonneg.facts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    Moe.exact_frame,
    fun m ρ _ => Moe.frame m ρ,
    fun m ρ _ => Moe.frame m ρ,
    fun m ρ _ => reference2_frame m ρ trivial,
    fun m ρ _ => reference2_frame m ρ trivial,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    trivial,
    attention,
    trivial,
    experts,
    trivial,
    projection,
    trivial,
    mixing⟩

end Cert.Proof

end
